-- ==== Defs.lean ====
def Pre_Kernel [hPre_ids_in_tables : Cert.Pre_ids_in_tables.Facts] (m : (ℓ : Loc Cert.Kernel.nD Cert.Kernel.τ Cert.Kernel.sig) → Buf (Elt Bits) ℓ) : Prop :=
  ∀ c : Dev Cert.Kernel.nD,
    (Cert.Pre_ids_in_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_ids_in_tables : Cert.Pre_ids_in_tables.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_tables [hPre_ids_in_tables : Cert.Pre_ids_in_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_ids_in_tables : Cert.Pre_ids_in_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_ids_in_tables : Cert.Pre_ids_in_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_ids_in_tables [hReferenceIdeal : Cert.ReferenceIdeal.Facts] [hPre_ids_in_tables : Cert.Pre_ids_in_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_tables : Cert.Pre_ids_in_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ids_in_tables : Cert.Pre_ids_in_tables.Facts),
    quiescent_Kernel (hKernel := hKernel) (hPre_ids_in_tables := hPre_ids_in_tables)
    ∧ quiescent_KernelIdeal (hKernelIdeal := hKernelIdeal) (hPre_ids_in_tables := hPre_ids_in_tables)
    ∧ quiescent_ReferenceIdeal (hReferenceIdeal := hReferenceIdeal)
    ∧ quiescent_ReferenceIdeal_pre_ids_in_tables (hReferenceIdeal := hReferenceIdeal) (hPre_ids_in_tables := hPre_ids_in_tables)
    ∧ preserves_Kernel_KernelIdeal
    ∧ algebraic_KernelIdeal_ReferenceIdeal (hKernelIdeal := hKernelIdeal) (hReferenceIdeal := hReferenceIdeal) (hPre_ids_in_tables := hPre_ids_in_tables)
-- ==== Pre_ids_in_tables.lean ====
abbrev S16384 : Shape := ⟨1, ![16384]⟩
abbrev S1000000x32 : Shape := ⟨2, ![1000000, 32]⟩
abbrev S32x32 : Shape := ⟨2, ![32, 32]⟩
abbrev S32 : Shape := ⟨1, ![32]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : IVec S16384 32) (main_arg1 : IVec S16384 32) (main_arg2 : FVec F S1000000x32 .f32) (main_arg3 : FVec F S1000000x32 .f32) (main_arg4 : FVec F S32x32 .f32) (main_arg5 : FVec F S32 .f32) (main_arg6 : FVec F S32x32 .f32) (main_arg7 : FVec F S32 .f32) : IVec S16384 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 32 := constantI S_ 32 0#32
  let main_v5 : IVec S16384 32 := broadcastInDim S16384 ![] bcast_S_S16384 main_c_1
  let main_v6 : IVec S16384 1 := cmpi .sge main_arg1 main_v5
  let main_v7 : IVec S16384 1 := andi main_v4 main_v6
  let main_c_2 : IVec S_ 32 := constantI S_ 32 1000000#32
  let main_v8 : IVec S16384 32 := broadcastInDim S16384 ![] bcast_S_S16384 main_c_2
  let main_v9 : IVec S16384 1 := cmpi .slt main_arg1 main_v8
  let main_v10 : IVec S16384 1 := andi main_v7 main_v9
  main_v10
-- ==== Kernel.lean ====
abbrev S16384 : Shape := ⟨1, ![16384]⟩
abbrev S1000000x32 : Shape := ⟨2, ![1000000, 32]⟩
abbrev S32x32 : Shape := ⟨2, ![32, 32]⟩
abbrev S32 : Shape := ⟨1, ![32]⟩
abbrev S_ : Shape := ⟨0, ![]⟩
abbrev S32x1000000 : Shape := ⟨2, ![32, 1000000]⟩
abbrev S253952x128 : Shape := ⟨2, ![253952, 128]⟩
abbrev S32x32768 : Shape := ⟨2, ![32, 32768]⟩
abbrev S8192x128 : Shape := ⟨2, ![8192, 128]⟩
abbrev S32x128 : Shape := ⟨2, ![32, 128]⟩
abbrev S32x8192 : Shape := ⟨2, ![32, 8192]⟩
abbrev S16384x128 : Shape := ⟨2, ![16384, 128]⟩
abbrev S512 : Shape := ⟨1, ![512]⟩
abbrev S512x128 : Shape := ⟨2, ![512, 128]⟩
abbrev S16384x1 : Shape := ⟨2, ![16384, 1]⟩
abbrev S1x32 : Shape := ⟨2, ![1, 32]⟩
abbrev S2048x128 : Shape := ⟨2, ![2048, 128]⟩
abbrev S2048x1 : Shape := ⟨2, ![2048, 1]⟩
abbrev S2048x32 : Shape := ⟨2, ![2048, 32]⟩
abbrev S2048 : Shape := ⟨1, ![2048]⟩

abbrev nBuf : Table → Nat
  | .hbm => 190
  | .local .tc .vmem => 22
  | .local .scVector .vmem => 4
  | _ => 0

abbrev hbmTy0_0 (i : Nat) : BufTy := match i % 128 with
  | 0 => ⟨S16384, .i32⟩
  | 1 => ⟨S16384, .i32⟩
  | 2 => ⟨S1000000x32, .f32⟩
  | 3 => ⟨S1000000x32, .f32⟩
  | 4 => ⟨S32x32, .f32⟩
  | 5 => ⟨S32, .f32⟩
  | 6 => ⟨S32x32, .f32⟩
  | 7 => ⟨S32, .f32⟩
  | 8 => ⟨S_, .i32⟩
  | 9 => ⟨S_, .i32⟩
  | 10 => ⟨S16384, .i32⟩
  | 11 => ⟨S16384, .i32⟩
  | 12 => ⟨S16384, .i32⟩
  | 13 => ⟨S_, .i32⟩
  | 14 => ⟨S16384, .i32⟩
  | 15 => ⟨S16384, .i1⟩
  | 16 => ⟨S16384, .i32⟩
  | 17 => ⟨S16384, .i32⟩
  | 18 => ⟨S_, .i32⟩
  | 19 => ⟨S16384, .i32⟩
  | 20 => ⟨S16384, .i1⟩
  | 21 => ⟨S16384, .i1⟩
  | 22 => ⟨S_, .i32⟩
  | 23 => ⟨S16384, .i32⟩
  | 24 => ⟨S16384, .i32⟩
  | 25 => ⟨S16384, .i32⟩
  | 26 => ⟨S_, .i32⟩
  | 27 => ⟨S16384, .i32⟩
  | 28 => ⟨S16384, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S16384, .i32⟩
  | 36 => ⟨S16384, .i32⟩
  | 37 => ⟨S_, .i32⟩
  | 38 => ⟨S16384, .i32⟩
  | 39 => ⟨S16384, .i1⟩
  | 40 => ⟨S_, .i32⟩
  | 41 => ⟨S16384, .i32⟩
  | 42 => ⟨S16384, .i1⟩
  | 43 => ⟨S_, .i32⟩
  | 44 => ⟨S_, .i1⟩
  | 45 => ⟨S16384, .i1⟩
  | 46 => ⟨S16384, .i1⟩
  | 47 => ⟨S16384, .i1⟩
  | 48 => ⟨S16384, .i32⟩
  | 49 => ⟨S16384, .i32⟩
  | 50 => ⟨S16384, .i32⟩
  | 51 => ⟨S16384, .i32⟩
  | 52 => ⟨S_, .i32⟩
  | 53 => ⟨S_, .i32⟩
  | 54 => ⟨S16384, .i32⟩
  | 55 => ⟨S16384, .i32⟩
  | 56 => ⟨S16384, .i32⟩
  | 57 => ⟨S_, .i32⟩
  | 58 => ⟨S16384, .i32⟩
  | 59 => ⟨S16384, .i1⟩
  | 60 => ⟨S16384, .i32⟩
  | 61 => ⟨S16384, .i32⟩
  | 62 => ⟨S_, .i32⟩
  | 63 => ⟨S16384, .i32⟩
  | 64 => ⟨S16384, .i1⟩
  | 65 => ⟨S16384, .i1⟩
  | 66 => ⟨S_, .i32⟩
  | 67 => ⟨S16384, .i32⟩
  | 68 => ⟨S16384, .i32⟩
  | 69 => ⟨S16384, .i32⟩
  | 70 => ⟨S_, .i32⟩
  | 71 => ⟨S16384, .i32⟩
  | 72 => ⟨S16384, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S16384, .i32⟩
  | 80 => ⟨S16384, .i32⟩
  | 81 => ⟨S_, .i32⟩
  | 82 => ⟨S16384, .i32⟩
  | 83 => ⟨S16384, .i1⟩
  | 84 => ⟨S_, .i32⟩
  | 85 => ⟨S16384, .i32⟩
  | 86 => ⟨S16384, .i1⟩
  | 87 => ⟨S_, .i32⟩
  | 88 => ⟨S_, .i1⟩
  | 89 => ⟨S16384, .i1⟩
  | 90 => ⟨S16384, .i1⟩
  | 91 => ⟨S16384, .i1⟩
  | 92 => ⟨S16384, .i32⟩
  | 93 => ⟨S16384, .i32⟩
  | 94 => ⟨S16384, .i32⟩
  | 95 => ⟨S16384, .i32⟩
  | 96 => ⟨S32x1000000, .f32⟩
  | 97 => ⟨S253952x128, .f32⟩
  | 98 => ⟨S16384x128, .f32⟩
  | 99 => ⟨S32x1000000, .f32⟩
  | 100 => ⟨S253952x128, .f32⟩
  | 101 => ⟨S16384x128, .f32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S16384, .i32⟩
  | 109 => ⟨S16384, .i32⟩
  | 110 => ⟨S_, .i32⟩
  | 111 => ⟨S16384, .i32⟩
  | 112 => ⟨S16384, .i1⟩
  | 113 => ⟨S_, .i32⟩
  | 114 => ⟨S16384, .i32⟩
  | 115 => ⟨S16384, .i1⟩
  | 116 => ⟨S_, .i32⟩
  | 117 => ⟨S_, .i1⟩
  | 118 => ⟨S16384, .i1⟩
  | 119 => ⟨S16384, .i1⟩
  | 120 => ⟨S16384, .i1⟩
  | 121 => ⟨S16384, .i32⟩
  | 122 => ⟨S16384, .i32⟩
  | 123 => ⟨S16384, .i32⟩
  | 124 => ⟨S_, .i32⟩
  | 125 => ⟨S_, .i32⟩
  | 126 => ⟨S16384, .i32⟩
  | 127 => ⟨S16384, .i32⟩
  | _ => ⟨S16384, .i32⟩

abbrev hbmTy0_1 (i : Nat) : BufTy := match i % 128 with
  | 0 => ⟨S16384, .i32⟩
  | 1 => ⟨S_, .i32⟩
  | 2 => ⟨S16384, .i32⟩
  | 3 => ⟨S16384, .i1⟩
  | 4 => ⟨S16384, .i32⟩
  | 5 => ⟨S16384, .i32⟩
  | 6 => ⟨S_, .i32⟩
  | 7 => ⟨S16384, .i32⟩
  | 8 => ⟨S16384, .i1⟩
  | 9 => ⟨S16384, .i1⟩
  | 10 => ⟨S_, .i32⟩
  | 11 => ⟨S16384, .i32⟩
  | 12 => ⟨S16384, .i32⟩
  | 13 => ⟨S16384, .i32⟩
  | 14 => ⟨S16384x1, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S16384, .i32⟩
  | 22 => ⟨S16384, .i32⟩
  | 23 => ⟨S_, .i32⟩
  | 24 => ⟨S16384, .i32⟩
  | 25 => ⟨S16384, .i1⟩
  | 26 => ⟨S_, .i32⟩
  | 27 => ⟨S16384, .i32⟩
  | 28 => ⟨S16384, .i1⟩
  | 29 => ⟨S_, .i32⟩
  | 30 => ⟨S_, .i1⟩
  | 31 => ⟨S16384, .i1⟩
  | 32 => ⟨S16384, .i1⟩
  | 33 => ⟨S16384, .i1⟩
  | 34 => ⟨S16384, .i32⟩
  | 35 => ⟨S16384, .i32⟩
  | 36 => ⟨S16384, .i32⟩
  | 37 => ⟨S_, .i32⟩
  | 38 => ⟨S_, .i32⟩
  | 39 => ⟨S16384, .i32⟩
  | 40 => ⟨S16384, .i32⟩
  | 41 => ⟨S16384, .i32⟩
  | 42 => ⟨S_, .i32⟩
  | 43 => ⟨S16384, .i32⟩
  | 44 => ⟨S16384, .i1⟩
  | 45 => ⟨S16384, .i32⟩
  | 46 => ⟨S16384, .i32⟩
  | 47 => ⟨S_, .i32⟩
  | 48 => ⟨S16384, .i32⟩
  | 49 => ⟨S16384, .i1⟩
  | 50 => ⟨S16384, .i1⟩
  | 51 => ⟨S_, .i32⟩
  | 52 => ⟨S16384, .i32⟩
  | 53 => ⟨S16384, .i32⟩
  | 54 => ⟨S16384, .i32⟩
  | 55 => ⟨S16384x1, .i32⟩
  | 56 => ⟨S32x32, .f32⟩
  | 57 => ⟨S1x32, .f32⟩
  | 58 => ⟨S32x32, .f32⟩
  | 59 => ⟨S1x32, .f32⟩
  | 60 => ⟨S16384x1, .f32⟩
  | 61 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (nBuf tb) → BufTy
  | .hbm, ⟨i, _⟩ => hbmTy i
  | .local .tc .vmem, ⟨0, _⟩ => ⟨S32x32768, .f32⟩
  | .local .tc .vmem, ⟨1, _⟩ => ⟨S32x32768, .f32⟩
  | .local .tc .vmem, ⟨2, _⟩ => ⟨S8192x128, .f32⟩
  | .local .tc .vmem, ⟨3, _⟩ => ⟨S8192x128, .f32⟩
  | .local .tc .vmem, ⟨4, _⟩ => ⟨S32x32768, .f32⟩
  | .local .tc .vmem, ⟨5, _⟩ => ⟨S32x32768, .f32⟩
  | .local .tc .vmem, ⟨6, _⟩ => ⟨S8192x128, .f32⟩
  | .local .tc .vmem, ⟨7, _⟩ => ⟨S8192x128, .f32⟩
  | .local .tc .vmem, ⟨8, _⟩ => ⟨S2048x128, .f32⟩
  | .local .tc .vmem, ⟨9, _⟩ => ⟨S2048x128, .f32⟩
  | .local .tc .vmem, ⟨10, _⟩ => ⟨S2048x128, .f32⟩
  | .local .tc .vmem, ⟨11, _⟩ => ⟨S2048x128, .f32⟩
  | .local .tc .vmem, ⟨12, _⟩ => ⟨S2048x1, .i32⟩
  | .local .tc .vmem, ⟨13, _⟩ => ⟨S2048x1, .i32⟩
  | .local .tc .vmem, ⟨14, _⟩ => ⟨S2048x1, .i32⟩
  | .local .tc .vmem, ⟨15, _⟩ => ⟨S2048x1, .i32⟩
  | .local .tc .vmem, ⟨16, _⟩ => ⟨S32x32, .f32⟩
  | .local .tc .vmem, ⟨17, _⟩ => ⟨S1x32, .f32⟩
  | .local .tc .vmem, ⟨18, _⟩ => ⟨S32x32, .f32⟩
  | .local .tc .vmem, ⟨19, _⟩ => ⟨S1x32, .f32⟩
  | .local .tc .vmem, ⟨20, _⟩ => ⟨S2048x1, .f32⟩
  | .local .tc .vmem, ⟨21, _⟩ => ⟨S2048x1, .f32⟩
  | .local .scVector .vmem, ⟨0, _⟩ => ⟨S512, .i32⟩
  | .local .scVector .vmem, ⟨1, _⟩ => ⟨S512x128, .f32⟩
  | .local .scVector .vmem, ⟨2, _⟩ => ⟨S512, .i32⟩
  | .local .scVector .vmem, ⟨3, _⟩ => ⟨S512x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v0 : Ref sig .tc := ⟨.hbm, 25, rfl⟩
abbrev main_c_0 : Ref sig .tc := ⟨.hbm, 26, rfl⟩
abbrev main_v1 : Ref sig .tc := ⟨.hbm, 27, rfl⟩
abbrev main_v2 : Ref sig .tc := ⟨.hbm, 28, rfl⟩
abbrev main_c_1 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v3 : Ref sig .tc := ⟨.hbm, 50, rfl⟩
abbrev main_v4 : Ref sig .tc := ⟨.hbm, 51, rfl⟩
abbrev main_c_2 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_c : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_0 : Ref sig .tc := ⟨.hbm, 66, rfl⟩
abbrev main_call2_v12 : Ref sig .tc := ⟨.hbm, 67, rfl⟩
abbrev main_call2_v13 : Ref sig .tc := ⟨.hbm, 68, rfl⟩
abbrev main_v5 : Ref sig .tc := ⟨.hbm, 69, rfl⟩
abbrev main_c_3 : Ref sig .tc := ⟨.hbm, 70, rfl⟩
abbrev main_v6 : Ref sig .tc := ⟨.hbm, 71, rfl⟩
abbrev main_v7 : Ref sig .tc := ⟨.hbm, 72, rfl⟩
abbrev main_c_4 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v8 : Ref sig .tc := ⟨.hbm, 94, rfl⟩
abbrev main_v9 : Ref sig .tc := ⟨.hbm, 95, rfl⟩
abbrev main_v10 : Ref sig .tc := ⟨.hbm, 96, rfl⟩
abbrev main_v11 : Ref sig .tc := ⟨.hbm, 97, rfl⟩
abbrev main_v12 : Ref sig .tc := ⟨.hbm, 98, rfl⟩
abbrev main_v13 : Ref sig .tc := ⟨.hbm, 99, rfl⟩
abbrev main_v14 : Ref sig .tc := ⟨.hbm, 100, rfl⟩
abbrev main_v15 : Ref sig .tc := ⟨.hbm, 101, rfl⟩
abbrev main_c_5 : Ref sig .tc := ⟨.hbm, 102, rfl⟩
abbrev main_call4_v0 : Ref sig .tc := ⟨.hbm, 103, rfl⟩
abbrev main_call4_c : Ref sig .tc := ⟨.hbm, 104, rfl⟩
abbrev main_call4_v1 : Ref sig .tc := ⟨.hbm, 105, rfl⟩
abbrev main_call4_c_0 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_c_1 : Ref sig .tc := ⟨.hbm, 110, rfl⟩
abbrev main_call4_v5 : Ref sig .tc := ⟨.hbm, 111, rfl⟩
abbrev main_call4_v6 : Ref sig .tc := ⟨.hbm, 112, rfl⟩
abbrev main_call4_c_2 : Ref sig .tc := ⟨.hbm, 113, rfl⟩
abbrev main_call4_v7 : Ref sig .tc := ⟨.hbm, 114, rfl⟩
abbrev main_call4_v8 : Ref sig .tc := ⟨.hbm, 115, rfl⟩
abbrev main_call4_c_3 : Ref sig .tc := ⟨.hbm, 116, rfl⟩
abbrev main_call4_v9 : Ref sig .tc := ⟨.hbm, 117, rfl⟩
abbrev main_call4_v10 : Ref sig .tc := ⟨.hbm, 118, rfl⟩
abbrev main_call4_v11 : Ref sig .tc := ⟨.hbm, 119, rfl⟩
abbrev main_call4_v12 : Ref sig .tc := ⟨.hbm, 120, rfl⟩
abbrev main_call4_v13 : Ref sig .tc := ⟨.hbm, 121, rfl⟩
abbrev main_call4_v14 : Ref sig .tc := ⟨.hbm, 122, rfl⟩
abbrev main_v16 : Ref sig .tc := ⟨.hbm, 123, rfl⟩
abbrev main_c_6 : Ref sig .tc := ⟨.hbm, 124, rfl⟩
abbrev main_call5_v0 : Ref sig .tc := ⟨.hbm, 125, rfl⟩
abbrev main_call5_v1 : Ref sig .tc := ⟨.hbm, 126, rfl⟩
abbrev main_call5_v2 : Ref sig .tc := ⟨.hbm, 127, rfl⟩
abbrev main_call5_v3 : Ref sig .tc := ⟨.hbm, 128, rfl⟩
abbrev main_call5_v4 : Ref sig .tc := ⟨.hbm, 129, rfl⟩
abbrev main_call5_v5 : Ref sig .tc := ⟨.hbm, 130, rfl⟩
abbrev main_call5_v6 : Ref sig .tc := ⟨.hbm, 131, rfl⟩
abbrev main_call5_v7 : Ref sig .tc := ⟨.hbm, 132, rfl⟩
abbrev main_call5_v8 : Ref sig .tc := ⟨.hbm, 133, rfl⟩
abbrev main_call5_c : Ref sig .tc := ⟨.hbm, 134, rfl⟩
abbrev main_call5_v9 : Ref sig .tc := ⟨.hbm, 135, rfl⟩
abbrev main_call5_v10 : Ref sig .tc := ⟨.hbm, 136, rfl⟩
abbrev main_call5_v11 : Ref sig .tc := ⟨.hbm, 137, rfl⟩
abbrev main_call5_c_0 : Ref sig .tc := ⟨.hbm, 138, rfl⟩
abbrev main_call5_v12 : Ref sig .tc := ⟨.hbm, 139, rfl⟩
abbrev main_call5_v13 : Ref sig .tc := ⟨.hbm, 140, rfl⟩
abbrev main_v17 : Ref sig .tc := ⟨.hbm, 141, rfl⟩
abbrev main_v18 : Ref sig .tc := ⟨.hbm, 142, rfl⟩
abbrev main_c_7 : Ref sig .tc := ⟨.hbm, 143, rfl⟩
abbrev main_call6_v0 : Ref sig .tc := ⟨.hbm, 144, rfl⟩
abbrev main_call6_c : Ref sig .tc := ⟨.hbm, 145, rfl⟩
abbrev main_call6_v1 : Ref sig .tc := ⟨.hbm, 146, rfl⟩
abbrev main_call6_c_0 : Ref sig .tc := ⟨.hbm, 147, rfl⟩
abbrev main_call6_v2 : Ref sig .tc := ⟨.hbm, 148, rfl⟩
abbrev main_call6_v3 : Ref sig .tc := ⟨.hbm, 149, rfl⟩
abbrev main_call6_v4 : Ref sig .tc := ⟨.hbm, 150, rfl⟩
abbrev main_call6_c_1 : Ref sig .tc := ⟨.hbm, 151, rfl⟩
abbrev main_call6_v5 : Ref sig .tc := ⟨.hbm, 152, rfl⟩
abbrev main_call6_v6 : Ref sig .tc := ⟨.hbm, 153, rfl⟩
abbrev main_call6_c_2 : Ref sig .tc := ⟨.hbm, 154, rfl⟩
abbrev main_call6_v7 : Ref sig .tc := ⟨.hbm, 155, rfl⟩
abbrev main_call6_v8 : Ref sig .tc := ⟨.hbm, 156, rfl⟩
abbrev main_call6_c_3 : Ref sig .tc := ⟨.hbm, 157, rfl⟩
abbrev main_call6_v9 : Ref sig .tc := ⟨.hbm, 158, rfl⟩
abbrev main_call6_v10 : Ref sig .tc := ⟨.hbm, 159, rfl⟩
abbrev main_call6_v11 : Ref sig .tc := ⟨.hbm, 160, rfl⟩
abbrev main_call6_v12 : Ref sig .tc := ⟨.hbm, 161, rfl⟩
abbrev main_call6_v13 : Ref sig .tc := ⟨.hbm, 162, rfl⟩
abbrev main_call6_v14 : Ref sig .tc := ⟨.hbm, 163, rfl⟩
abbrev main_v19 : Ref sig .tc := ⟨.hbm, 164, rfl⟩
abbrev main_c_8 : Ref sig .tc := ⟨.hbm, 165, rfl⟩
abbrev main_call7_v0 : Ref sig .tc := ⟨.hbm, 166, rfl⟩
abbrev main_call7_v1 : Ref sig .tc := ⟨.hbm, 167, rfl⟩
abbrev main_call7_v2 : Ref sig .tc := ⟨.hbm, 168, rfl⟩
abbrev main_call7_v3 : Ref sig .tc := ⟨.hbm, 169, rfl⟩
abbrev main_call7_v4 : Ref sig .tc := ⟨.hbm, 170, rfl⟩
abbrev main_call7_v5 : Ref sig .tc := ⟨.hbm, 171, rfl⟩
abbrev main_call7_v6 : Ref sig .tc := ⟨.hbm, 172, rfl⟩
abbrev main_call7_v7 : Ref sig .tc := ⟨.hbm, 173, rfl⟩
abbrev main_call7_v8 : Ref sig .tc := ⟨.hbm, 174, rfl⟩
abbrev main_call7_c : Ref sig .tc := ⟨.hbm, 175, rfl⟩
abbrev main_call7_v9 : Ref sig .tc := ⟨.hbm, 176, rfl⟩
abbrev main_call7_v10 : Ref sig .tc := ⟨.hbm, 177, rfl⟩
abbrev main_call7_v11 : Ref sig .tc := ⟨.hbm, 178, rfl⟩
abbrev main_call7_c_0 : Ref sig .tc := ⟨.hbm, 179, rfl⟩
abbrev main_call7_v12 : Ref sig .tc := ⟨.hbm, 180, rfl⟩
abbrev main_call7_v13 : Ref sig .tc := ⟨.hbm, 181, rfl⟩
abbrev main_v20 : Ref sig .tc := ⟨.hbm, 182, rfl⟩
abbrev main_v21 : Ref sig .tc := ⟨.hbm, 183, rfl⟩
abbrev main_v22 : Ref sig .tc := ⟨.hbm, 184, rfl⟩
abbrev main_v23 : Ref sig .tc := ⟨.hbm, 185, rfl⟩
abbrev main_v24 : Ref sig .tc := ⟨.hbm, 186, rfl⟩
abbrev main_v25 : Ref sig .tc := ⟨.hbm, 187, rfl⟩
abbrev main_v26 : Ref sig .tc := ⟨.hbm, 188, rfl⟩
abbrev main_v27 : Ref sig .tc := ⟨.hbm, 189, rfl⟩
abbrev main_v4_scv : Ref sig .scVector := ⟨.hbm, 51, rfl⟩
abbrev main_v11_scv : Ref sig .scVector := ⟨.hbm, 97, rfl⟩
abbrev main_v12_scv : Ref sig .scVector := ⟨.hbm, 98, rfl⟩
abbrev main_v9_scv : Ref sig .scVector := ⟨.hbm, 95, rfl⟩
abbrev main_v14_scv : Ref sig .scVector := ⟨.hbm, 100, rfl⟩
abbrev main_v15_scv : Ref sig .scVector := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc4_stg0_0 : Ref sig .tc := ⟨.vmem, 8, rfl⟩
abbrev cc4_stg0_1 : Ref sig .tc := ⟨.vmem, 9, rfl⟩
abbrev cc4_stg1_0 : Ref sig .tc := ⟨.vmem, 10, rfl⟩
abbrev cc4_stg1_1 : Ref sig .tc := ⟨.vmem, 11, rfl⟩
abbrev cc4_stg2_0 : Ref sig .tc := ⟨.vmem, 12, rfl⟩
abbrev cc4_stg2_1 : Ref sig .tc := ⟨.vmem, 13, rfl⟩
abbrev cc4_stg3_0 : Ref sig .tc := ⟨.vmem, 14, rfl⟩
abbrev cc4_stg3_1 : Ref sig .tc := ⟨.vmem, 15, rfl⟩
abbrev cc4_stg4_0 : Ref sig .tc := ⟨.vmem, 16, rfl⟩
abbrev cc4_stg5_0 : Ref sig .tc := ⟨.vmem, 17, rfl⟩
abbrev cc4_stg6_0 : Ref sig .tc := ⟨.vmem, 18, rfl⟩
abbrev cc4_stg7_0 : Ref sig .tc := ⟨.vmem, 19, rfl⟩
abbrev cc4_stg8_0 : Ref sig .tc := ⟨.vmem, 20, rfl⟩
abbrev cc4_stg8_1 : Ref sig .tc := ⟨.vmem, 21, rfl⟩
abbrev cc1_scratch0 : Ref sig .scVector := ⟨.vmem, 0, rfl⟩
abbrev cc1_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 7
abbrev cc2_sem0_1 : DmaSem sig := 8
abbrev cc2_sem1_0 : DmaSem sig := 9
abbrev cc2_sem1_1 : DmaSem sig := 10
abbrev cc4_sem0_0 : DmaSem sig := 14
abbrev cc4_sem0_1 : DmaSem sig := 15
abbrev cc4_sem1_0 : DmaSem sig := 16
abbrev cc4_sem1_1 : DmaSem sig := 17
abbrev cc4_sem2_0 : DmaSem sig := 18
abbrev cc4_sem2_1 : DmaSem sig := 19
abbrev cc4_sem3_0 : DmaSem sig := 20
abbrev cc4_sem3_1 : DmaSem sig := 21
abbrev cc4_sem4_0 : DmaSem sig := 22
abbrev cc4_sem5_0 : DmaSem sig := 23
abbrev cc4_sem6_0 : DmaSem sig := 24
abbrev cc4_sem7_0 : DmaSem sig := 25
abbrev cc4_sem8_0 : DmaSem sig := 26
abbrev cc4_sem8_1 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev grid2 : Pipeline.Grid := ⟨1, ![31], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S32x32768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k3_off2 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x1 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2048x1 .i32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S32x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S32x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S2048x1 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384 : Shape := ⟨1, ![16384]⟩
abbrev S1000000x32 : Shape := ⟨2, ![1000000, 32]⟩
abbrev S32x32 : Shape := ⟨2, ![32, 32]⟩
abbrev S32 : Shape := ⟨1, ![32]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩
abbrev S1x32 : Shape := ⟨2, ![1, 32]⟩

abbrev nBuf : Space → Nat
  | .hbm => 73
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x32, .f32⟩
  | .hbm, ⟨3, _⟩ => ⟨S1000000x32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S1, .i32⟩
  | .hbm, ⟨17, _⟩ => ⟨S_, .i32⟩
  | .hbm, ⟨18, _⟩ => ⟨S16384x1, .i32⟩
  | .hbm, ⟨19, _⟩ => ⟨S16384x1, .i1⟩
  | .hbm, ⟨20, _⟩ => ⟨S1x1, .i32⟩
  | .hbm, ⟨21, _⟩ => ⟨S16384x1, .i32⟩
  | .hbm, ⟨22, _⟩ => ⟨S16384x1, .i1⟩
  | .hbm, ⟨23, _⟩ => ⟨S16384x1, .i1⟩
  | .hbm, ⟨24, _⟩ => ⟨S_, .i1⟩
  | .hbm, ⟨25, _⟩ => ⟨S16384, .i1⟩
  | .hbm, ⟨26, _⟩ => ⟨S16384x32, .f32⟩
  | .hbm, ⟨27, _⟩ => ⟨S16384x32, .i1⟩
  | .hbm, ⟨28, _⟩ => ⟨S_, .f32⟩
  | .hbm, ⟨29, _⟩ => ⟨S16384x32, .f32⟩
  | .hbm, ⟨30, _⟩ => ⟨S16384x32, .f32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S1, .i32⟩
  | .hbm, ⟨40, _⟩ => ⟨S_, .i32⟩
  | .hbm, ⟨41, _⟩ => ⟨S16384x1, .i32⟩
  | .hbm, ⟨42, _⟩ => ⟨S16384x1, .i1⟩
  | .hbm, ⟨43, _⟩ => ⟨S1x1, .i32⟩
  | .hbm, ⟨44, _⟩ => ⟨S16384x1, .i32⟩
  | .hbm, ⟨45, _⟩ => ⟨S16384x1, .i1⟩
  | .hbm, ⟨46, _⟩ => ⟨S16384x1, .i1⟩
  | .hbm, ⟨47, _⟩ => ⟨S_, .i1⟩
  | .hbm, ⟨48, _⟩ => ⟨S16384, .i1⟩
  | .hbm, ⟨49, _⟩ => ⟨S16384x32, .f32⟩
  | .hbm, ⟨50, _⟩ => ⟨S16384x32, .i1⟩
  | .hbm, ⟨51, _⟩ => ⟨S_, .f32⟩
  | .hbm, ⟨52, _⟩ => ⟨S16384x32, .f32⟩
  | .hbm, ⟨53, _⟩ => ⟨S16384x32, .f32⟩
  | .hbm, ⟨54, _⟩ => ⟨S32x32, .f32⟩
  | .hbm, ⟨55, _⟩ => ⟨S16384x32, .f32⟩
  | .hbm, ⟨56, _⟩ => ⟨S1x32, .f32⟩
  | .hbm, ⟨57, _⟩ => ⟨S16384x32, .f32⟩
  | .hbm, ⟨58, _⟩ => ⟨S16384x32, .f32⟩
  | .hbm, ⟨59, _⟩ => ⟨S_, .f32⟩
  | .hbm, ⟨60, _⟩ => ⟨S16384x32, .f32⟩
  | .hbm, ⟨61, _⟩ => ⟨S16384x32, .f32⟩
  | .hbm, ⟨62, _⟩ => ⟨S32x32, .f32⟩
  | .hbm, ⟨63, _⟩ => ⟨S16384x32, .f32⟩
  | .hbm, ⟨64, _⟩ => ⟨S1x32, .f32⟩
  | .hbm, ⟨65, _⟩ => ⟨S16384x32, .f32⟩
  | .hbm, ⟨66, _⟩ => ⟨S16384x32, .f32⟩
  | .hbm, ⟨67, _⟩ => ⟨S_, .f32⟩
  | .hbm, ⟨68, _⟩ => ⟨S16384x32, .f32⟩
  | .hbm, ⟨69, _⟩ => ⟨S16384x32, .f32⟩
  | .hbm, ⟨70, _⟩ => ⟨S16384x32, .f32⟩
  | .hbm, ⟨71, _⟩ => ⟨S_, .f32⟩
  | .hbm, ⟨72, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_call2_cst : Ref sig .tc := ⟨.hbm, 59, rfl⟩
abbrev main_call2_v0 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_call3_cst : Ref sig .tc := ⟨.hbm, 67, rfl⟩
abbrev main_call3_v0 : Ref sig .tc := ⟨.hbm, 68, rfl⟩
abbrev main_v13 : Ref sig .tc := ⟨.hbm, 69, rfl⟩
abbrev main_v14 : Ref sig .tc := ⟨.hbm, 70, rfl⟩
abbrev main_cst : Ref sig .tc := ⟨.hbm, 71, rfl⟩
abbrev main_v15 : Ref sig .tc := ⟨.hbm, 72, rfl⟩

abbrev nD : Nat := 1
abbrev τ : Topo := Topo.v7x

variable {F : FTy → Type} [FloatOps F]
-- ==== Proof.Host.lean ====
/-
  The host side of @main: its operations between the kernel calls, stretch by stretch, and @main as those stretches around
  its three pallas_calls and two SparseCore calls.
-/
module

public import proofs.«01_k».proof.Proof.Gen.KernelIdeal
public import Idealize.ShloMosaic.Lib.StableHlo.Run
public import Idealize.ShloMosaic.Lib.Pipeline.RegionsOwned

@[expose] public section

noncomputable section

namespace Cert.Proof.Host

open Cert.KernelIdeal Cert.KernelIdeal.Gen
open Idealize.ShloMosaic Idealize.ShloMosaic.TcCoe Idealize.SL.Sem Idealize.ShloMosaic.StableHlo

variable {F : FTy → Type} [FloatOps F]

/-- The operations of one call of the floored division. -/
def floorDivOps (arg0 : TRef sig ⟨S16384, .i32⟩) (arg1 : TRef sig ⟨S_, .i32⟩) (φ : fn_floor_divide.Bufs) : List (HloOp τ sig (Elt F)) :=
  [ TRef.unary arg1 φ.v0 id,
    TRef.unary φ.v0 φ.v1 (broadcastInDim S16384 ![] bcast_S_S16384),
    TRef.binary arg0 φ.v1 φ.v2 Host.divsi,
    TRef.unary arg0 φ.v3 signi,
    TRef.unary φ.v0 φ.v4 signi,
    TRef.unary φ.v4 φ.v5 (broadcastInDim S16384 ![] bcast_S_S16384),
    TRef.binary φ.v3 φ.v5 φ.v6 (cmpi .ne),
    TRef.unary φ.v0 φ.v7 (broadcastInDim S16384 ![] bcast_S_S16384),
    TRef.binary arg0 φ.v7 φ.v8 Host.remsi,
    TRef.nullary φ.c (constantI S_ 32 0#32),
    TRef.unary φ.c φ.v9 (broadcastInDim S16384 ![] bcast_S_S16384),
    TRef.binary φ.v8 φ.v9 φ.v10 (cmpi .ne),
    TRef.binary φ.v6 φ.v10 φ.v11 andi,
    TRef.nullary φ.c_0 (constantI S_ 32 1#32),
    TRef.unary φ.c_0 φ.v12 (broadcastInDim S16384 ![] bcast_S_S16384),
    TRef.binary φ.v2 φ.v12 φ.v13 subi,
    TRef.ternary φ.v11 φ.v13 φ.v2 φ.call0.v0 select ]

/-- The operations of one call of the second printed floored division. -/
def floorDivOps1 (arg0 : TRef sig ⟨S16384, .i32⟩) (arg1 : TRef sig ⟨S_, .i32⟩) (φ : fn_floor_divide_1.Bufs) : List (HloOp τ sig (Elt F)) :=
  [ TRef.unary arg1 φ.v0 id,
    TRef.unary φ.v0 φ.v1 (broadcastInDim S16384 ![] bcast_S_S16384),
    TRef.binary arg0 φ.v1 φ.v2 Host.divsi,
    TRef.unary arg0 φ.v3 signi,
    TRef.unary φ.v0 φ.v4 signi,
    TRef.unary φ.v4 φ.v5 (broadcastInDim S16384 ![] bcast_S_S16384),
    TRef.binary φ.v3 φ.v5 φ.v6 (cmpi .ne),
    TRef.unary φ.v0 φ.v7 (broadcastInDim S16384 ![] bcast_S_S16384),
    TRef.binary arg0 φ.v7 φ.v8 Host.remsi,
    TRef.nullary φ.c (constantI S_ 32 0#32),
    TRef.unary φ.c φ.v9 (broadcastInDim S16384 ![] bcast_S_S16384),
    TRef.binary φ.v8 φ.v9 φ.v10 (cmpi .ne),
    TRef.binary φ.v6 φ.v10 φ.v11 andi,
    TRef.nullary φ.c_0 (constantI S_ 32 1#32),
    TRef.unary φ.c_0 φ.v12 (broadcastInDim S16384 ![] bcast_S_S16384),
    TRef.binary φ.v2 φ.v12 φ.v13 subi,
    TRef.ternary φ.v11 φ.v13 φ.v2 φ.call0.v0 select ]

/-- The operations of one call of the floored remainder. -/
def remOps (arg0 : TRef sig ⟨S16384, .i32⟩) (arg1 : TRef sig ⟨S_, .i32⟩) (φ : fn_remainder.Bufs) : List (HloOp τ sig (Elt F)) :=
  [ TRef.unary arg1 φ.v0 id,
    TRef.nullary φ.c (constantI S_ 32 0#32),
    TRef.binary φ.v0 φ.c φ.v1 (cmpi .eq),
    TRef.nullary φ.c_0 (constantI S_ 32 1#32),
    TRef.ternary φ.v1 φ.c_0 φ.v0 φ.call0.v0 select,
    TRef.unary φ.call0.v0 φ.v3 (broadcastInDim S16384 ![] bcast_S_S16384),
    TRef.binary arg0 φ.v3 φ.v4 Host.remsi,
    TRef.nullary φ.c_1 (constantI S_ 32 0#32),
    TRef.unary φ.c_1 φ.v5 (broadcastInDim S16384 ![] bcast_S_S16384),
    TRef.binary φ.v4 φ.v5 φ.v6 (cmpi .ne),
    TRef.nullary φ.c_2 (constantI S_ 32 0#32),
    TRef.unary φ.c_2 φ.v7 (broadcastInDim S16384 ![] bcast_S_S16384),
    TRef.binary φ.v4 φ.v7 φ.v8 (cmpi .slt),
    TRef.nullary φ.c_3 (constantI S_ 32 0#32),
    TRef.binary φ.call0.v0 φ.c_3 φ.v9 (cmpi .slt),
    TRef.unary φ.v9 φ.v10 (broadcastInDim S16384 ![] bcast_S_S16384),
    TRef.binary φ.v8 φ.v10 φ.v11 (cmpi .ne),
    TRef.binary φ.v11 φ.v6 φ.v12 andi,
    TRef.unary φ.call0.v0 φ.v13 (broadcastInDim S16384 ![] bcast_S_S16384),
    TRef.binary φ.v4 φ.v13 φ.v14 addi,
    TRef.ternary φ.v12 φ.v14 φ.v4 φ.v15 select ]

/-- The host operations before the first pallas_call: the row and the packed line of every user and every item, the user table transposed. -/
def ops0 : List (HloOp τ sig (Elt F)) :=
  [nullary main_c (constantI S_ 32 32768#32)] ++
  floorDivOps (.of main_arg0) (.of main_c) main_call0 ++
  [nullary main_c_0 (constantI S_ 32 8192#32)] ++
  [unary main_c_0 main_v1 (broadcastInDim S16384 ![] bcast_S_S16384 : (⟨S_, .i32⟩ : BufTy).Contents (Elt F) → (⟨S16384, .i32⟩ : BufTy).Contents (Elt F))] ++
  [binary main_v0 main_v1 main_v2 (muli : (⟨S16384, .i32⟩ : BufTy).Contents (Elt F) → (⟨S16384, .i32⟩ : BufTy).Contents (Elt F) → (⟨S16384, .i32⟩ : BufTy).Contents (Elt F))] ++
  [nullary main_c_1 (constantI S_ 32 8192#32)] ++
  remOps (.of main_arg0) (.of main_c_1) main_call1 ++
  [binary main_v2 main_v3 main_v4 (addi : (⟨S16384, .i32⟩ : BufTy).Contents (Elt F) → (⟨S16384, .i32⟩ : BufTy).Contents (Elt F) → (⟨S16384, .i32⟩ : BufTy).Contents (Elt F))] ++
  [nullary main_c_2 (constantI S_ 32 32768#32)] ++
  floorDivOps (.of main_arg1) (.of main_c_2) main_call2 ++
  [nullary main_c_3 (constantI S_ 32 8192#32)] ++
  [unary main_c_3 main_v6 (broadcastInDim S16384 ![] bcast_S_S16384 : (⟨S_, .i32⟩ : BufTy).Contents (Elt F) → (⟨S16384, .i32⟩ : BufTy).Contents (Elt F))] ++
  [binary main_v5 main_v6 main_v7 (muli : (⟨S16384, .i32⟩ : BufTy).Contents (Elt F) → (⟨S16384, .i32⟩ : BufTy).Contents (Elt F) → (⟨S16384, .i32⟩ : BufTy).Contents (Elt F))] ++
  [nullary main_c_4 (constantI S_ 32 8192#32)] ++
  remOps (.of main_arg1) (.of main_c_4) main_call3 ++
  [binary main_v7 main_v8 main_v9 (addi : (⟨S16384, .i32⟩ : BufTy).Contents (Elt F) → (⟨S16384, .i32⟩ : BufTy).Contents (Elt F) → (⟨S16384, .i32⟩ : BufTy).Contents (Elt F))] ++
  [unary main_arg2 main_v10 ((transpose S32x1000000 [1, 0] · transposes_S1000000x32_S32x1000000_1_0) : (⟨S1000000x32, .f32⟩ : BufTy).Contents (Elt F) → (⟨S32x1000000, .f32⟩ : BufTy).Contents (Elt F))]

/-- The host operation between the two gathers: the item table transposed. -/
def ops1 : List (HloOp τ sig (Elt F)) :=
  [unary main_arg3 main_v13 ((transpose S32x1000000 [1, 0] · transposes_S1000000x32_S32x1000000_1_0) : (⟨S1000000x32, .f32⟩ : BufTy).Contents (Elt F) → (⟨S32x1000000, .f32⟩ : BufTy).Contents (Elt F))]

/-- The host operations before the last pallas_call: the lane group of every user and every item, the weights and biases in the layout the kernel reads. -/
def ops2 : List (HloOp τ sig (Elt F)) :=
  [nullary main_c_5 (constantI S_ 32 32768#32)] ++
  remOps (.of main_arg0) (.of main_c_5) main_call4 ++
  [nullary main_c_6 (constantI S_ 32 8192#32)] ++
  floorDivOps1 (.of main_v16) (.of main_c_6) main_call5 ++
  [reshape main_v17 main_v18 (rfl : (.i32 : EltTy) = .i32) shapeCasts_S16384_S16384x1] ++
  [nullary main_c_7 (constantI S_ 32 32768#32)] ++
  remOps (.of main_arg1) (.of main_c_7) main_call6 ++
  [nullary main_c_8 (constantI S_ 32 8192#32)] ++
  floorDivOps1 (.of main_v19) (.of main_c_8) main_call7 ++
  [reshape main_v20 main_v21 (rfl : (.i32 : EltTy) = .i32) shapeCasts_S16384_S16384x1] ++
  [unary main_arg4 main_v22 ((transpose S32x32 [1, 0] · transposes_S32x32_S32x32_1_0) : (⟨S32x32, .f32⟩ : BufTy).Contents (Elt F) → (⟨S32x32, .f32⟩ : BufTy).Contents (Elt F))] ++
  [reshape main_arg5 main_v23 (rfl : (.f32 : EltTy) = .f32) shapeCasts_S32_S1x32] ++
  [unary main_arg6 main_v24 ((transpose S32x32 [1, 0] · transposes_S32x32_S32x32_1_0) : (⟨S32x32, .f32⟩ : BufTy).Contents (Elt F) → (⟨S32x32, .f32⟩ : BufTy).Contents (Elt F))] ++
  [reshape main_arg7 main_v25 (rfl : (.f32 : EltTy) = .f32) shapeCasts_S32_S1x32]

/-- The host operation after the last pallas_call: the column of results as a vector. -/
def ops3 : List (HloOp τ sig (Elt F)) :=
  [reshape main_v26 main_v27 (rfl : (.f32 : EltTy) = .f32) shapeCasts_S16384x1_S16384]

/-- A call of the floored division is its operations in turn. -/
theorem floorDiv_seq (a : TRef sig ⟨S16384, .i32⟩) (b : TRef sig ⟨S_, .i32⟩) (φ : fn_floor_divide.Bufs) :
    fn_floor_divide.body (F := F) a b φ = seq (floorDivOps a b φ) := rfl

/-- A call of the second floored division is its operations in turn. -/
theorem floorDiv1_seq (a : TRef sig ⟨S16384, .i32⟩) (b : TRef sig ⟨S_, .i32⟩) (φ : fn_floor_divide_1.Bufs) :
    fn_floor_divide_1.body (F := F) a b φ = seq (floorDivOps1 a b φ) := rfl

/-- A call of the floored remainder is its operations in turn. -/
theorem rem_seq (a : TRef sig ⟨S16384, .i32⟩) (b : TRef sig ⟨S_, .i32⟩) (φ : fn_remainder.Bufs) :
    fn_remainder.body (F := F) a b φ = seq (remOps a b φ) := rfl

/-- One operation is the line of that operation. -/
theorem hlo_seq (op : HloOp τ sig (Elt F)) :
    (hlo rfl op fun _ => .ret ⟨⟩ : Prog (TpuEff nD τ sig (Elt F) (SparseCore.Sig (Pipeline.Sig Λ₀ (Fin 3) fun p => (pcfgs (F := F) p).Adm) 2) .tc) PUnit) = seq [op] := rfl

/-- @main is its four stretches of host operations around the kernel calls. -/
theorem main_eq (d : Dev nD) : main (F := F) d
    = (seq ops0 >>= fun _ => Prog.lift (.customCall (SparseCore.inner (Pipeline.entry 0)) ()) >>= fun _ => sc.run d 0 >>= fun _ =>
       seq ops1 >>= fun _ => Prog.lift (.customCall (SparseCore.inner (Pipeline.entry 1)) ()) >>= fun _ => sc.run d 1 >>= fun _ =>
       seq ops2 >>= fun _ => Prog.lift (.customCall (SparseCore.inner (Pipeline.entry 2)) ()) >>= fun _ => seq ops3) := by
  simp only [main, ops0, ops1, ops2, ops3, seq_append, floorDiv_seq, floorDiv1_seq, rem_seq, hlo_seq, bind_assoc, bind_pure_unit]

end Cert.Proof.Host

end
-- ==== Proof.Setup.lean ====
/-
  The program as the launch theorem sees it — its calls, its body table, the resource algebra — and what is asked of a
  packed table and of a gathered block of lines.
-/
module

public import proofs.«01_k».proof.Proof.Host
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.SparseCore.Quiescent
public import Idealize.ShloMosaic.Lib.SparseCore.Ops
public import Idealize.ShloMosaic.Lib.SparseCore.Stream
public import Idealize.ShloMosaic.Lib.Pipeline.Kit
public import Idealize.ShloMosaic.Lib.Tactic

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The calls and the body table -/

/-- The three pallas_calls' labels over the kernels'. -/
abbrev ΛP : Labels := Pipeline.Sig Λ₀ (Fin 3) fun p => (pcfgs (F := F) p).Adm
/-- The two SparseCore calls. -/
abbrev K : SparseCore.Cfg τ sig (ΛP (F := F)) 2 := sc (F := F)
/-- The body table below the SparseCore calls. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the calls' handshakes, the pallas_calls' staging cells, the transfers' counters -/

abbrev UH : Type := URounds (GSem nD τ sig) ℕ
abbrev UP : Type := URounds (GSem nD τ sig) Unit
abbrev UU : Type := (UH × UP) × Counters

local notation "𝕄" => MT nD τ sig (HIx 2) (Elt F) ℕ UU ℕ

/-- The handshakes' rounds. -/
def EH : Emb UH (MT nD τ sig (HIx 2) (Elt F) ℕ UU ℕ) := (Emb.inl : Emb UH (UH × UP)).trans embL
/-- The staging cells' rounds. -/
def EP : Emb UP (MT nD τ sig (HIx 2) (Elt F) ℕ UU ℕ) := (Emb.inr : Emb UP (UH × UP)).trans embL

instance EH_landsIn : (EH : Emb UH 𝕄).LandsIn (upEmb : UEmb _ 𝕄) := by unfold EH embL; infer_instance
instance EP_landsIn : (EP : Emb UP 𝕄).LandsIn (upEmb : UEmb _ 𝕄) := by unfold EP embL; infer_instance

/-- The launch's own element splits between the handshakes and the staging cells. -/
theorem ownU_split (a : UH) (b : UP) : (ownU (((a, b), 1) : UU) : sProp 𝕄) ⊢ iprop(BI.own (EH a) ∗ BI.own (EP b)) :=
  BI.own_op_elim ((uEmb (nD := nD) (τ := τ) (sig := sig) (Ix := HIx 2) (Val := Elt F) (Name := ℕ) (U := UU) (Lvl := ℕ)).toEmb.op_of_mem
    (Prod.mk_mem_op (Prod.mk_mem_op (URA.mem_op_one a) (URA.mem_one_op b)) (URA.mem_op_one _)))

/-! ## The tasks' parts -/

theorem odiv : 32 ∣ S16384x128.size 0 := ⟨512, rfl⟩
/-- The `w`-th of the 32 blocks of 512 lines of a gathered array. -/
abbrev oPart (w : Fin 32) : Rect S16384x128 := Rect.part (s := S16384x128) (a₀ := 0) odiv w
/-- Its elements. -/
abbrev oSet (w : Fin 32) : Finset S16384x128.Idx := (oPart w).set
/-- A task's share of what every task reads. -/
abbrev shr (w : Fin 32) : PosShare TreeShare := pieceOf fullShare 32 (by decide) w
/-- The number of the task of tile `i` of SparseCore `c`. -/
def wid (c i : ℕ) : Fin 32 := Fin.ofNat 32 (2 * i + c)

/-- Line `r`, column `j` of a gathered array. -/
def row128 (r : Fin 16384) (j : Fin 128) : S16384x128.Idx := fun | 0 => r | 1 => j | ⟨_ + 2, h⟩ => absurd h (Nat.not_lt.2 (Nat.le_add_left _ _))
/-- Line `r`, column `j` of a packed table. -/
def pack128 (r : Fin 253952) (j : Fin 128) : S253952x128.Idx := fun | 0 => r | 1 => j | ⟨_ + 2, h⟩ => absurd h (Nat.not_lt.2 (Nat.le_add_left _ _))
/-- Entry `r` of a list of lines. -/
def idx1 (r : Fin 16384) : S16384.Idx := fun | 0 => r | ⟨_ + 1, h⟩ => absurd h (Nat.not_lt.2 (Nat.le_add_left _ _))

/-- `f`, on the lines of `R`, is the lines `I` of a table with `Pk`. -/
def Gathered (Pk : (S253952x128.Idx → Elt F .f32) → Prop) (I : S16384.Idx → BitVec 32) (R : Finset S16384x128.Idx) (f : S16384x128.Idx → Elt F .f32) : Prop :=
  ∃ tbl, Pk tbl ∧ ∀ r j, row128 r j ∈ R → ∀ h : (I (idx1 r)).toNat < 253952, f (row128 r j) = tbl (pack128 ⟨(I (idx1 r)).toNat, h⟩ j)

/-- Every line of the list is a line of the packed table. -/
def InTable (I : S16384.Idx → BitVec 32) : Prop := ∀ x, (I x).toNat < 253952

end Cert.Proof.Run

end
-- ==== Proof.Body.lean ====
/-
  What one task of the packed gather does, at a symbolic (SparseCore, tile) pair and for arrays named by the caller: its
  512 words of the list come in, the lines they name are streamed in, and the 512 lines go out to the task's block.
-/
module

public import proofs.«01_k».proof.Proof.Setup

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- A program that has returned. -/
theorem wp_done (t : Thread nD τ) {Q : PUnit → sProp 𝕄} :
    Q ⟨⟩ ⊢ wp frame (wpE (defs₀ (F := F)) 𝒱₀ t none) Set.univ ((Prog.ret PUnit.unit).bind fun _ => Pure.pure PUnit.unit) Q := by
  change _ ⊢ wp _ _ _ (.ret _) _
  iintro H
  sl_step
  iexact H

/-- The lines a list names depend on its words alone. -/
theorem rows_congr {si : Shape} {o z : ℕ} {a b : si.Idx → Elt F .i32} (e : a = b) (hn : si.numel = o) (h : ∀ x, (a x).toNat < z) (h' : ∀ x, (b x).toNat < z) :
    SparseCore.rows a hn h = SparseCore.rows b hn h' := by
  subst e; rfl

section
variable (d : Dev nD) (i : grid1.Coords)
  (arg2 : Memref sig .scVector .hbm S16384 .i32) (arg3 : Memref sig .scVector .hbm S253952x128 .f32) (arg4 : Memref sig .scVector .hbm S16384x128 .f32)
  (arg5 : Memref sig .scVector .vmem S512 .i32) (arg6 : Memref sig .scVector .vmem S512x128 .f32)

/-- The thread of the task. -/
abbrev thr : Thread nD τ := V d ((i 0).castLE hcore1) ((i 1).castLE hsub1)
/-- The task's words of the list. -/
abbrev iSl : Memref sig .scVector .hbm S512 .i32 := arg2.slice (Rect.unit (s := S16384) (k1_off1 i) S512.size (k1_off1_inb i)) (fun _ => rfl)
/-- The table, as the stream names it. -/
abbrev tSl : Memref sig .scVector .hbm S253952x128 .f32 := arg3.slice (Rect.unit (s := S253952x128) ![0, 0] S253952x128.size inb_S253952x128_S253952x128_0_0) (fun _ => rfl)
/-- The task's lines of the result. -/
abbrev oSl : Memref sig .scVector .hbm S512x128 .f32 := arg4.slice (Rect.unit (s := S16384x128) (k1_off2 i) S512x128.size (k1_off2_inb i)) (fun _ => rfl)

set_option maxHeartbeats 1000000 in
/-- The task's run. -/
theorem gather_body (harg2 : arg2.IsWhole) (harg3 : arg3.IsWhole) (harg4 : arg4.IsWhole) (harg5 : arg5.IsWhole) (harg6 : arg6.IsWhole)
    (s7 r0 r1 : DmaSems sig S_) (q2 q3 : PosShare TreeShare)
    (fi : Buf (Elt F) ((iSl i arg2).view.loc (thr d i))) (ft : Buf (Elt F) ((tSl arg3).view.loc (thr d i))) (fo : Buf (Elt F) ((oSl i arg4).view.loc (thr d i)))
    (fs : Buf (Elt F) (arg5.view.loc (thr d i))) (fr : Buf (Elt F) (arg6.view.loc (thr d i)))
    (hin : ∀ x, ((iSl i arg2).view.read (Elt F) fi x).toNat < S253952x128.size gathers_S253952x128_S512x128.axis)
    (O : CellTallies nD τ sig (HIx 2)) (W : Waits sig (HIx 2)) (hO : ∀ g, O g none = 0) :
    iprop((levAts (K (F := F)).L (K (F := F)).lev : sProp 𝕄)
        ∗ ((iSl i arg2).view.loc (thr d i) ↦[(iSl i arg2).view.set]{q2} fi)
        ∗ ((tSl arg3).view.loc (thr d i) ↦[(tSl arg3).view.set]{q3} ft)
        ∗ ((oSl i arg4).view.loc (thr d i) ↦[(oSl i arg4).view.set]{fullShare} fo)
        ∗ (arg5.view.loc (thr d i) ↦[arg5.view.set]{fullShare} fs)
        ∗ (arg6.view.loc (thr d i) ↦[arg6.view.set]{fullShare} fr)
        ∗ semVal (thr d i, .dma s7.sem) 0 ∗ semVal (thr d i, .dma r0.sem) 0 ∗ semVal (thr d i, .dma r1.sem) 0
        ∗ owes (thr d i) O W)
      ⊢ wp frame (wpE (defs₀ (F := F)) 𝒱₀ (thr d i) none) Set.univ
          (cc1_sc_packed_gather_skel i arg2 harg2 arg3 harg3 arg4 harg4 arg5 harg5 arg6 harg6 s7 r0 r1)
          fun _ => iprop((∃ f, ⌜∀ x, (oSl i arg4).view.read (Elt F) f x
                = (tSl arg3).view.read (Elt F) ft (gathers_S253952x128_S512x128.idx (SparseCore.rows ((iSl i arg2).view.read (Elt F) fi) rfl hin) x)⌝
              ∗ ((oSl i arg4).view.loc (thr d i) ↦[(oSl i arg4).view.set]{fullShare} f))
            ∗ (∃ f, (arg5.view.loc (thr d i) ↦[arg5.view.set]{fullShare} f))
            ∗ (∃ f, (arg6.view.loc (thr d i) ↦[arg6.view.set]{fullShare} f))
            ∗ semVal (thr d i, .dma s7.sem) 0 ∗ semVal (thr d i, .dma r0.sem) 0 ∗ semVal (thr d i, .dma r1.sem) 0
            ∗ ∃ W', ⌜∀ p ∈ W', p ∈ W ∨ p.2 = none⌝ ∗ owes (thr d i) O W') := by
  unfold cc1_sc_packed_gather_skel
  iintro ⟨#Hlv, Hi, Ht, Ho, Hs, Hr, H7, H0, H1, HO⟩
  ihave Hmw := (show levAts (K (F := F)).L (K (F := F)).lev ⊢ Transfers.MayWaits (thr d i) (none : HIx 2) O from
    (K (F := F)).mayWaits_none (thr := thr d i) hO) $$ Hlv
  -- the words of the list
  iapply (Transfers.wp_dmaLocal countersEmb 𝒱₀ (thr d i) none (src := iSl i arg2) (dst := arg5) (via := .same) (sm := .dma r0.sem) (none : HIx 2) arg5.view.dmaCredit rfl
    (View.dmaCredit_pos _ (by decide)) (Finset.Subset.refl _)) $$ [Hi Hs H0]
  · isplitl [Hi]; · iexact Hi
    isplitl [Hs]; · iexact Hs
    iexact H0
  iintro Hfl
  iapply (Transfers.wp_waitLocalO countersEmb 𝒱₀ (thr d i) none (none : HIx 2) (rfl : arg5.view.dmaCredit = _)) $$ [Hfl HO]
  · isplitl [Hfl]; · iexact Hfl
    isplitl [HO]; · iexact HO
    iapply (Transfers.MayWaits.elim (SemLoc.dma r0.sem)) $$ Hmw
  iintro ⟨⟨Hs, Hi⟩, H0, HO⟩
  -- the lines they name
  have hread : arg5.view.read (Elt F) (arg5.view.write (Elt F) fs ((iSl i arg2).view.read (Elt F) fi) Finset.univ) = (iSl i arg2).view.read (Elt F) fi :=
    View.read_write_univ _ _
  iapply (SparseCore.wp_indirectGatherLocal countersEmb 𝒱₀ (thr d i) none (src := tSl arg3) (hg := gathers_S253952x128_S512x128) (hsp := .inl rfl) (hr := by decide) (none : HIx 2)
      arg6.view.dmaCredit (SparseCore.sum_rowCredit_eq_dmaCredit _ _ (fun _ => rfl)) (by decide)
      (show ∀ x, (arg5.view.read (Elt F) (arg5.view.write (Elt F) fs ((iSl i arg2).view.read (Elt F) fi) Finset.univ) x).toNat < _ by
        rw [hread]; exact hin)) $$ [Ht Hr Hs H7]
  · isplitl [Ht]; · iexact Ht
    isplitl [Hr]; · iexact Hr
    isplitl [Hs]; · iexact Hs
    iexact H7
  iintro Hfl
  iapply (Transfers.wp_waitLocalO countersEmb 𝒱₀ (thr d i) none (none : HIx 2) (rfl : arg6.view.dmaCredit = _)) $$ [Hfl HO]
  · isplitl [Hfl]; · iexact Hfl
    isplitl [HO]; · iexact HO
    iapply (Transfers.MayWaits.elim (SemLoc.dma s7.sem)) $$ Hmw
  iintro ⟨⟨Hr, Ht, Hs⟩, H7, HO⟩
  -- the lines go out
  iapply (Transfers.wp_dmaLocal countersEmb 𝒱₀ (thr d i) none (src := arg6) (dst := oSl i arg4) (via := .same) (sm := .dma r1.sem) (none : HIx 2) (oSl i arg4).view.dmaCredit rfl
    (View.dmaCredit_pos _ (by decide)) (Finset.Subset.refl _)) $$ [Hr Ho H1]
  · isplitl [Hr]; · iexact Hr
    isplitl [Ho]; · iexact Ho
    iexact H1
  iintro Hfl
  iapply (Transfers.wp_waitLocalO countersEmb 𝒱₀ (thr d i) none (none : HIx 2) (rfl : (oSl i arg4).view.dmaCredit = _)) $$ [Hfl HO]
  · isplitl [Hfl]; · iexact Hfl
    isplitl [HO]; · iexact HO
    iapply (Transfers.MayWaits.elim (SemLoc.dma r1.sem)) $$ Hmw
  iintro ⟨⟨Ho, Hr⟩, H1, HO⟩
  iapply (wp_done (thr d i))
  isplitl [Ho]
  · iexists _; isplitr
    swap; · iexact Ho
    ipureintro; intro x
    rw [View.read_write_univ]
    simp only [ReadAs.apply]
    rw [View.read_write_univ]
    exact congrArg (fun r => (tSl arg3).view.read (Elt F) ft (gathers_S253952x128_S512x128.idx r x)) (rows_congr hread _ _ _)
  isplitl [Hs]; · iexists _; iexact Hs
  isplitl [Hr]; · iexists _; iexact Hr
  isplitl [H7]; · iexact H7
  isplitl [H0]; · iexact H0
  isplitl [H1]; · iexact H1
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end

end Cert.Proof.Run

end
-- ==== Proof.Lines.lean ====
/-
  Which lines a task's block holds after its run: the task's rectangle of the result is its part of 32, and its lines
  are the table's at the words of its part of the list.
-/
module

public import proofs.«01_k».proof.Proof.Body

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

theorem oRect_eq (i : grid1.Coords) : Rect.unit (s := S16384x128) (k1_off2 i) S512x128.size (k1_off2_inb i) = oPart (wid (i 0).val (i 1).val) := by
  have h0 : (i 0).val < 2 := (i 0).isLt
  have h1 : (i 1).val < 16 := (i 1).isLt
  unfold oPart Rect.part Rect.block
  congr 1 <;> funext a
  · rw [k1_off2_eq]
    match a with
    | 0 =>
      simp [Shape.partIx, Shape.partSize, wid, Fin.ofNat]
      omega
    | 1 => simp [Shape.partIx, Shape.partSize]
  · match a with
    | 0 => simp [Shape.partSize]
    | 1 => simp [Shape.partSize]

/-- The one coordinate of the index at a place of a list. -/
theorem rowMajor_symm_one {n : ℕ} (k : Fin (⟨1, ![n]⟩ : Shape).numel) : (((⟨1, ![n]⟩ : Shape).rowMajor.symm k) 0).val = k.val := by
  rw [← Shape.rowMajor_val_one, Equiv.apply_symm_apply]

/-- A block written with the table's lines at the task's words is gathered. -/
theorem gathered_of (i : grid1.Coords) (Pk : (S253952x128.Idx → Elt F .f32) → Prop) (I : S16384.Idx → BitVec 32) (tbl : S253952x128.Idx → Elt F .f32)
    (f : S16384x128.Idx → Elt F .f32) (hPk : Pk tbl)
    (hin : ∀ x, (I ((Rect.unit (s := S16384) (k1_off1 i) S512.size (k1_off1_inb i)).emb x)).toNat < S253952x128.size gathers_S253952x128_S512x128.axis)
    (h : ∀ x : S512x128.Idx, f ((Rect.unit (s := S16384x128) (k1_off2 i) S512x128.size (k1_off2_inb i)).emb x)
      = tbl ((Rect.unit (s := S253952x128) ![0, 0] S253952x128.size inb_S253952x128_S253952x128_0_0).emb
          (gathers_S253952x128_S512x128.idx (SparseCore.rows (F := F) (fun y => I ((Rect.unit (s := S16384) (k1_off1 i) S512.size (k1_off1_inb i)).emb y)) rfl hin) x))) :
    Gathered Pk I (oSet (wid (i 0).val (i 1).val)) f := by
  refine ⟨tbl, hPk, fun r j hr hI => ?_⟩
  have h0 : (i 0).val < 2 := (i 0).isLt
  have h1 : (i 1).val < 16 := (i 1).isLt
  have hr' : row128 r j ∈ (Rect.unit (s := S16384x128) (k1_off2 i) S512x128.size (k1_off2_inb i)).set := by rw [oRect_eq]; exact hr
  have hm := Rect.mem_set_unit.mp hr' 0
  rw [k1_off2_eq] at hm
  simp [row128] at hm
  obtain ⟨x, hx⟩ : ∃ x : S512x128.Idx, x = (fun | 0 => ⟨r.val - (1024 * (i 1).val + 512 * (i 0).val), by change _ < 512; omega⟩ | 1 => j | ⟨_ + 2, h⟩ => absurd h (Nat.not_lt.2 (Nat.le_add_left _ _)) : S512x128.Idx) := ⟨_, rfl⟩
  have x0 : (x 0).val = r.val - (1024 * (i 1).val + 512 * (i 0).val) := by rw [hx]
  have x1 : (x 1).val = j.val := by rw [hx]
  have e : (Rect.unit (s := S16384x128) (k1_off2 i) S512x128.size (k1_off2_inb i)).emb x = row128 r j := by
    funext a; apply Fin.ext
    match a with
    | 0 =>
      change (k1_off2 i) 0 + 1 * (x 0).val = r.val
      rw [x0, k1_off2_eq]; simp; omega
    | 1 =>
      change (k1_off2 i) 1 + 1 * (x 1).val = j.val
      rw [x1, k1_off2_eq]; simp
  rw [← e, h x]
  congr 1
  funext a; apply Fin.ext
  match a with
  | 0 =>
    change 0 + 1 * (gathers_S253952x128_S512x128.idx _ x gathers_S253952x128_S512x128.axis).val = (I (idx1 r)).toNat
    rw [Shape.Gathers.idx_axis]
    change 0 + 1 * (I _).toNat = (I _).toNat
    rw [Nat.zero_add, Nat.one_mul]
    congr 2
    funext b; apply Fin.ext
    match b with
    | 0 =>
      change (k1_off1 i) 0 + 1 * ((S512.rowMajor.symm _) 0).val = r.val
      rw [rowMajor_symm_one]
      change (k1_off1 i) 0 + 1 * (x 0).val = r.val
      rw [x0, k1_off1_eq]; simp; omega
  | 1 =>
    change 0 + 1 * (gathers_S253952x128_S512x128.idx _ x 1).val = j.val
    rw [Shape.Gathers.idx_of_ne _ _ _ _ (by decide)]
    change 0 + 1 * (x 1).val = j.val
    rw [x1]; simp

end Cert.Proof.Run

end
-- ==== Proof.Task.lean ====
/-
  The two SparseCore calls' tasks: what a task is handed and brings back, and its obligation from the gather's run.
-/
module

public import proofs.«01_k».proof.Proof.Lines

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## A task's run, its scratch and its semaphores among the subcore's own -/

omit [FloatOps F] in
/-- Two scratch buffers among the subcore's own. -/
theorem ownBufs_two (d : Dev nD) (c : Fin τ.nSC) (j : Fin τ.nSub) (b₀ b₁ : Ref sig .scVector) (hne : b₁ ≠ b₀)
    (h₀ : ((Proc.scVector c j).devRef b₀).owner = .proc (.scVector c j)) (h₁ : ((Proc.scVector c j).devRef b₁).owner = .proc (.scVector c j)) :
    (ownBufs (V d c j) : sProp 𝕄)
      = iprop((∃ f, (V d c j).loc b₀ ↦{fullShare} f) ∗ (∃ f, (V d c j).loc b₁ ↦{fullShare} f)
          ∗ bigSep (((ownRefs (τ := τ) (.scVector c j)).erase ((Proc.scVector c j).devRef b₀)).erase ((Proc.scVector c j).devRef b₁))
              fun b => iprop(∃ f, ((d, b) : Loc nD τ sig) ↦{fullShare} f)) := by
  unfold SparseCore.Cfg.ownBufs
  refine (SparseCore.bigSep_erase' (SparseCore.Cfg.mem_ownRefs_of_owner (p := Proc.scVector c j) (b := (Proc.scVector c j).devRef b₀) h₀)).trans ?_
  rw [SparseCore.bigSep_erase' (Finset.mem_erase.mpr ⟨fun e => absurd (Proc.devRef_injective _ e) hne,
    SparseCore.Cfg.mem_ownRefs_of_owner (p := Proc.scVector c j) (b := (Proc.scVector c j).devRef b₁) h₁⟩)]

omit [FloatOps F] in
/-- Three semaphores among the subcore's own. -/
theorem ownSems_three (d : Dev nD) (c : Fin τ.nSC) (j : Fin τ.nSub) (s₀ s₁ s₂ : SemLoc sig) (h₀ : s₀.isScoped .scVector = true)
    (h₁ : s₁.isScoped .scVector = true) (h₂ : s₂.isScoped .scVector = true) (n₁ : s₁ ≠ s₀) (n₂ : s₂ ≠ s₀) (n₃ : s₂ ≠ s₁) :
    (ownSems0 (V d c j) : sProp 𝕄)
      = iprop(semVal (V d c j, s₀) 0 ∗ semVal (V d c j, s₁) 0 ∗ semVal (V d c j, s₂) 0
          ∗ bigSep ((((ownCells (V d c j)).erase (V d c j, s₀)).erase (V d c j, s₁)).erase (V d c j, s₂)) fun g => semVal g 0) := by
  unfold SparseCore.Cfg.ownSems0
  rw [SparseCore.bigSep_erase' ((mem_ownCells (g := (V d c j, s₀))).mpr ⟨rfl, h₀⟩),
    SparseCore.bigSep_erase' (Finset.mem_erase.mpr ⟨fun e => n₁ (congrArg Prod.snd e), (mem_ownCells (g := (V d c j, s₁))).mpr ⟨rfl, h₁⟩⟩),
    SparseCore.bigSep_erase' (Finset.mem_erase.mpr ⟨fun e => n₃ (congrArg Prod.snd e), Finset.mem_erase.mpr ⟨fun e => n₂ (congrArg Prod.snd e),
      (mem_ownCells (g := (V d c j, s₂))).mpr ⟨rfl, h₂⟩⟩⟩)]

section
variable (d : Dev nD) (i : grid1.Coords)
  (arg2 : Memref sig .scVector .hbm S16384 .i32) (arg3 : Memref sig .scVector .hbm S253952x128 .f32) (arg4 : Memref sig .scVector .hbm S16384x128 .f32)
  (arg5 : Memref sig .scVector .vmem S512 .i32) (arg6 : Memref sig .scVector .vmem S512x128 .f32)

/-- A task's run from the list and the table whole at its shares, its scratch and semaphores taken from the subcore's own. -/
theorem task_run (hF : (K (F := F)).Facts) (harg2 : arg2.IsWhole) (harg3 : arg3.IsWhole) (harg4 : arg4.IsWhole) (harg5 : arg5.IsWhole) (harg6 : arg6.IsWhole)
    (s7 r0 r1 : DmaSems sig S_) (q2 q3 : PosShare TreeShare) (hS5 : arg5.view.set = Finset.univ) (hS6 : arg6.view.set = Finset.univ)
    (hne : arg6.view.ref ≠ arg5.view.ref)
    (ho5 : ((thr d i).2.devRef arg5.view.ref).owner = .proc (thr d i).2)
    (ho6 : ((thr d i).2.devRef arg6.view.ref).owner = .proc (thr d i).2)
    (h₀ : (SemLoc.dma s7.sem : SemLoc sig).isScoped .scVector = true)
    (h₁ : (SemLoc.dma r0.sem : SemLoc sig).isScoped .scVector = true) (h₂ : (SemLoc.dma r1.sem : SemLoc sig).isScoped .scVector = true)
    (n₁ : (SemLoc.dma r0.sem : SemLoc sig) ≠ .dma s7.sem) (n₂ : (SemLoc.dma r1.sem : SemLoc sig) ≠ .dma s7.sem) (n₃ : (SemLoc.dma r1.sem : SemLoc sig) ≠ .dma r0.sem)
    (fi : Buf (Elt F) ((iSl i arg2).view.loc (thr d i))) (ft : Buf (Elt F) ((tSl arg3).view.loc (thr d i)))
    (hin : ∀ x, ((iSl i arg2).view.read (Elt F) fi x).toNat < S253952x128.size gathers_S253952x128_S512x128.axis)
    (O : CellTallies nD τ sig (HIx 2)) (W : Waits sig (HIx 2)) (hO : ∀ g, O g none = 0) :
    iprop((levAts (K (F := F)).L (K (F := F)).lev : sProp 𝕄)
        ∗ ((iSl i arg2).view.loc (thr d i) ↦{q2} fi)
        ∗ ((tSl arg3).view.loc (thr d i) ↦{q3} ft)
        ∗ (∃ fo, (oSl i arg4).view.loc (thr d i) ↦[(oSl i arg4).view.set]{fullShare} fo)
        ∗ scopedBufs (thr d i) ∗ scopedSems0 (thr d i) ∗ owes (thr d i) O W)
      ⊢ wp frame (wpE (defs₀ (F := F)) 𝒱₀ (thr d i) none) Set.univ
          (cc1_sc_packed_gather_skel i arg2 harg2 arg3 harg3 arg4 harg4 arg5 harg5 arg6 harg6 s7 r0 r1)
          fun _ => iprop((∃ f, ⌜∀ x, (oSl i arg4).view.read (Elt F) f x
                = (tSl arg3).view.read (Elt F) ft (gathers_S253952x128_S512x128.idx (SparseCore.rows ((iSl i arg2).view.read (Elt F) fi) rfl hin) x)⌝
              ∗ ((oSl i arg4).view.loc (thr d i) ↦[(oSl i arg4).view.set]{fullShare} f))
            ∗ scopedBufs (thr d i) ∗ scopedSems0 (thr d i)
            ∗ ∃ W', ⌜∀ p ∈ W', p ∈ W ∨ p.2 = none⌝ ∗ owes (thr d i) O W') := by
  rw [(K (F := F)).scopedBufs_V hF d _ _, SparseCore.Cfg.scopedSems0_V (Val := Elt F) d _ _,
    ownSems_three d _ _ (.dma s7.sem) (.dma r0.sem) (.dma r1.sem) h₀ h₁ h₂ n₁ n₂ n₃,
    ownBufs_two d _ _ arg5.view.ref arg6.view.ref hne ho5 ho6]
  iintro ⟨#Hlv, Hi, Ht, ⟨%fo, Ho⟩, ⟨⟨%fs, Hs⟩, ⟨%fr, Hr⟩, Hbufs⟩, ⟨H7, H0, H1, Hsems⟩, HO⟩
  ihave Hi' := (pointsTo_split_subset (q := q2) (f := fi) (S := Finset.univ) (Finset.subset_univ (iSl i arg2).view.set)).1 $$ Hi
  icases Hi' with ⟨Hi, -⟩
  ihave Ht' := (pointsTo_split_subset (q := q3) (f := ft) (S := Finset.univ) (Finset.subset_univ (tSl arg3).view.set)).1 $$ Ht
  icases Ht' with ⟨Ht, -⟩
  iapply (wp_wand frame (wpE (defs₀ (F := F)) 𝒱₀ (thr d i) none)) $$ [Hi Ht Ho Hs Hr H7 H0 H1 HO]
  · iapply (gather_body d i arg2 arg3 arg4 arg5 arg6 harg2 harg3 harg4 harg5 harg6 s7 r0 r1 q2 q3 fi ft fo fs fr hin O W hO)
    isplitr; · iexact Hlv
    isplitl [Hi]; · iexact Hi
    isplitl [Ht]; · iexact Ht
    isplitl [Ho]; · iexact Ho
    rw [hS5, hS6]
    isplitl [Hs]; · iexact Hs
    isplitl [Hr]; · iexact Hr
    isplitl [H7]; · iexact H7
    isplitl [H0]; · iexact H0
    isplitl [H1]; · iexact H1
    iexact HO
  rw [hS5, hS6]
  iintro %_ ⟨Ho, Hs, Hr, H7, H0, H1, HO⟩
  isplitl [Ho]; · iexact Ho
  isplitl [Hs Hr Hbufs]
  · isplitl [Hs]; · iexact Hs
    isplitl [Hr]; · iexact Hr
    iexact Hbufs
  isplitl [H7 H0 H1 Hsems]
  · isplitl [H7]; · iexact H7
    isplitl [H0]; · iexact H0
    isplitl [H1]; · iexact H1
    iexact Hsems
  iexact HO

end

end Cert.Proof.Run

end
-- ==== Proof.Calls.lean ====
/-
  The two calls' payloads, their tasks' obligations and how a call's operands go out to its tasks.
-/
module

public import proofs.«01_k».proof.Proof.Task

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-! ## What a task is handed, what it brings back -/

abbrev v4L (d : Dev nD) : Loc nD τ sig := (SparseCore.T d : Thread nD τ).loc main_v4
abbrev v9L (d : Dev nD) : Loc nD τ sig := (SparseCore.T d : Thread nD τ).loc main_v9
abbrev v11L (d : Dev nD) : Loc nD τ sig := (SparseCore.T d : Thread nD τ).loc main_v11
abbrev v12L (d : Dev nD) : Loc nD τ sig := (SparseCore.T d : Thread nD τ).loc main_v12
abbrev v14L (d : Dev nD) : Loc nD τ sig := (SparseCore.T d : Thread nD τ).loc main_v14
abbrev v15L (d : Dev nD) : Loc nD τ sig := (SparseCore.T d : Thread nD τ).loc main_v15

section
variable (Pk : (S253952x128.Idx → Elt F .f32) → Prop) (I : S16384.Idx → BitVec 32) (d : Dev nD) (w : Fin 32)

/-- The users' gather: a share of the list and of a packed table, and the block of the result. -/
def go0 : sProp 𝕄 :=
  iprop((v4L d ↦{shr w} (I : Buf (Elt F) (v4L d)))
    ∗ (∃ tbl : Buf (Elt F) (v11L d), ⌜Pk tbl⌝ ∗ (v11L d ↦{shr w} tbl))
    ∗ ∃ f : Buf (Elt F) (v12L d), v12L d ↦[oSet w]{fullShare} f)
/-- The block, gathered. -/
def td0 : sProp 𝕄 := iprop(∃ f : Buf (Elt F) (v12L d), ⌜Gathered Pk I (oSet w) f⌝ ∗ (v12L d ↦[oSet w]{fullShare} f))
/-- The items' gather. -/
def go1 : sProp 𝕄 :=
  iprop((v9L d ↦{shr w} (I : Buf (Elt F) (v9L d)))
    ∗ (∃ tbl : Buf (Elt F) (v14L d), ⌜Pk tbl⌝ ∗ (v14L d ↦{shr w} tbl))
    ∗ ∃ f : Buf (Elt F) (v15L d), v15L d ↦[oSet w]{fullShare} f)
/-- The block, gathered. -/
def td1 : sProp 𝕄 := iprop(∃ f : Buf (Elt F) (v15L d), ⌜Gathered Pk I (oSet w) f⌝ ∗ (v15L d ↦[oSet w]{fullShare} f))

instance : BI.Storable (upEmb : UEmb _ 𝕄) (go0 Pk I d w) := by unfold go0; infer_instance
instance : BI.Storable (upEmb : UEmb _ 𝕄) (td0 Pk I d w) := by unfold td0; infer_instance
instance : BI.Storable (upEmb : UEmb _ 𝕄) (go1 Pk I d w) := by unfold go1; infer_instance
instance : BI.Storable (upEmb : UEmb _ 𝕄) (td1 Pk I d w) := by unfold td1; infer_instance

end

variable (Pk : Fin 2 → Dev nD → (S253952x128.Idx → Elt F .f32) → Prop) (I : Fin 2 → Dev nD → S16384.Idx → BitVec 32)

def goP (q : Fin 2) (d : Dev nD) (w : Fin 32) : sProp 𝕄 := match q with | 0 => go0 (Pk 0 d) (I 0 d) d w | 1 => go1 (Pk 1 d) (I 1 d) d w
def tdP (q : Fin 2) (d : Dev nD) (w : Fin 32) : sProp 𝕄 := match q with | 0 => td0 (Pk 0 d) (I 0 d) d w | 1 => td1 (Pk 1 d) (I 1 d) d w

instance (q : Fin 2) (d : Dev nD) (w : Fin 32) : BI.Storable (upEmb : UEmb _ 𝕄) (goP Pk I q d w) := by
  match q with
  | 0 => exact (inferInstance : BI.Storable (upEmb : UEmb _ 𝕄) (go0 (Pk 0 d) (I 0 d) d w))
  | 1 => exact (inferInstance : BI.Storable (upEmb : UEmb _ 𝕄) (go1 (Pk 1 d) (I 1 d) d w))
instance (q : Fin 2) (d : Dev nD) (w : Fin 32) : BI.Storable (upEmb : UEmb _ 𝕄) (tdP Pk I q d w) := by
  match q with
  | 0 => exact (inferInstance : BI.Storable (upEmb : UEmb _ 𝕄) (td0 (Pk 0 d) (I 0 d) d w))
  | 1 => exact (inferInstance : BI.Storable (upEmb : UEmb _ 𝕄) (td1 (Pk 1 d) (I 1 d) d w))

/-- A call's SparseCore takes its tasks' parts and brings them back. -/
def P : (K (F := F)).Pay (nD := nD) (Val := Elt F) (Name := ℕ) (U := UU) where
  st := fun q d c => bigSep Finset.univ fun i : Fin ((K (F := F)).nSub q) => goP Pk I q d (wid c.val i.val)
  dn := fun q d c => bigSep Finset.univ fun i : Fin ((K (F := F)).nSub q) => tdP Pk I q d (wid c.val i.val)
  go := fun q d c i => goP Pk I q d (wid c.val i.val)
  td := fun q d c i => tdP Pk I q d (wid c.val i.val)
  x := fun _ _ => iprop(emp)

instance P_storable : (P (F := F) Pk I).IsStorable where
  st q d c := (inferInstance : BI.Storable (upEmb : UEmb _ 𝕄) (bigSep Finset.univ fun i : Fin ((K (F := F)).nSub q) => goP Pk I q d (wid c.val i.val)))
  dn q d c := (inferInstance : BI.Storable (upEmb : UEmb _ 𝕄) (bigSep Finset.univ fun i : Fin ((K (F := F)).nSub q) => tdP Pk I q d (wid c.val i.val)))
  go q d c i := (inferInstance : BI.Storable (upEmb : UEmb _ 𝕄) (goP Pk I q d (wid c.val i.val)))
  td q d c i := (inferInstance : BI.Storable (upEmb : UEmb _ 𝕄) (tdP Pk I q d (wid c.val i.val)))

theorem vecSplit (q : Fin 2) : (K (F := F)).VecSplit' (P Pk I) q := by
  intro d c
  change (bigSep Finset.univ fun i : Fin ((K (F := F)).nSub q) => goP Pk I q d (wid c.val i.val)) ⊢ |={Set.univ}=> iprop(
      (bigSep Finset.univ fun i : Fin ((K (F := F)).nSub q) => goP Pk I q d (wid c.val i.val))
      ∗ ((bigSep Finset.univ fun i : Fin ((K (F := F)).nSub q) => tdP Pk I q d (wid c.val i.val))
          -∗ bigSep Finset.univ fun i : Fin ((K (F := F)).nSub q) => tdP Pk I q d (wid c.val i.val)))
  iintro H; imodintro
  isplitl [H]; · iexact H
  iintro H; iexact H

/-! ## The tasks -/

variable [FloatOps F]

/-- A task's place in the grid. -/
def coordsV (c : Fin (grid1.bound 0)) (s : Fin (grid1.bound 1)) : grid1.Coords :=
  fun | 0 => c | 1 => s | ⟨_ + 2, h⟩ => absurd h (Nat.not_lt.2 (Nat.le_add_left _ _))

abbrev v4V : Memref sig .scVector .hbm S16384 .i32 := Memref.whole main_v4_scv
abbrev v11V : Memref sig .scVector .hbm S253952x128 .f32 := Memref.whole main_v11_scv
abbrev v12V : Memref sig .scVector .hbm S16384x128 .f32 := Memref.whole main_v12_scv
abbrev v9V : Memref sig .scVector .hbm S16384 .i32 := Memref.whole main_v9_scv
abbrev v14V : Memref sig .scVector .hbm S253952x128 .f32 := Memref.whole main_v14_scv
abbrev v15V : Memref sig .scVector .hbm S16384x128 .f32 := Memref.whole main_v15_scv
abbrev s0V : Memref sig .scVector .vmem S512 .i32 := Memref.whole cc1_scratch0
abbrev s1V : Memref sig .scVector .vmem S512x128 .f32 := Memref.whole cc1_scratch1
abbrev t0V : Memref sig .scVector .vmem S512 .i32 := Memref.whole cc3_scratch0
abbrev t1V : Memref sig .scVector .vmem S512x128 .f32 := Memref.whole cc3_scratch1

theorem defs₀_users (c : Fin τ.nSC) (s : Fin τ.nSub) :
    defs₀ (F := F) (.scVector c s) 1 ()
      = SparseCore.onTile hcore1 hsub1 (fun c s => cc1_sc_packed_gather (coordsV c s)
          v4V (Memref.isWhole_whole _) v11V (Memref.isWhole_whole _) v12V (Memref.isWhole_whole _)
          s0V (Memref.isWhole_whole _) s1V (Memref.isWhole_whole _) cc1_scratch2 cc1_scoped0 cc1_scoped1) ⟨⟩ c s := rfl

theorem defs₀_items (c : Fin τ.nSC) (s : Fin τ.nSub) :
    defs₀ (F := F) (.scVector c s) 3 ()
      = SparseCore.onTile hcore3 hsub3 (fun c s => cc3_sc_packed_gather (coordsV c s)
          v9V (Memref.isWhole_whole _) v14V (Memref.isWhole_whole _) v15V (Memref.isWhole_whole _)
          t0V (Memref.isWhole_whole _) t1V (Memref.isWhole_whole _) cc3_scratch2 cc3_scoped0 cc3_scoped1) ⟨⟩ c s := rfl

/-- The second gather's text is the first's. -/
theorem cc3_eq : cc3_sc_packed_gather (F := F) = cc1_sc_packed_gather_skel (F := F) := by
  rw [cc3_sc_packed_gather_eq_skeleton]; rfl

theorem set_oSl (r : Memref sig .scVector .hbm S16384x128 .f32) (i : grid1.Coords) :
    (oSl i r).view.set = (oSet (wid (i 0).val (i 1).val)).map r.view.emb := by
  refine (View.set_slice _ _).trans ?_
  rw [oRect_eq]

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section
variable (d : Dev nD) (i : grid1.Coords) (hF : (K (F := F)).Facts) (O : CellTallies nD τ sig (HIx 2)) (W : Waits sig (HIx 2)) (hO : ∀ g, O g none = 0)

include hF hO

set_option maxRecDepth 16384 in
theorem users_task (Pk : (S253952x128.Idx → Elt F .f32) → Prop) (I : S16384.Idx → BitVec 32) (hI : InTable I) :
    iprop((levAts (K (F := F)).L (K (F := F)).lev : sProp 𝕄) ∗ emp ∗ go0 Pk I d (wid (i 0).val (i 1).val)
        ∗ scopedBufs (thr d i) ∗ scopedSems0 (thr d i) ∗ owes (thr d i) O W)
      ⊢ wp frame (wpE (defs₀ (F := F)) 𝒱₀ (thr d i) none) Set.univ
          (cc1_sc_packed_gather i v4V (Memref.isWhole_whole _) v11V (Memref.isWhole_whole _) v12V (Memref.isWhole_whole _)
            s0V (Memref.isWhole_whole _) s1V (Memref.isWhole_whole _) cc1_scratch2 cc1_scoped0 cc1_scoped1)
          fun _ => iprop(td0 Pk I d (wid (i 0).val (i 1).val) ∗ scopedBufs (thr d i) ∗ scopedSems0 (thr d i)
            ∗ ∃ W', ⌜∀ p ∈ W', p ∈ W ∨ p.2 = none⌝ ∗ owes (thr d i) O W') := by
  rw [cc1_sc_packed_gather_eq_skeleton]
  unfold go0
  iintro ⟨#Hlv, -, ⟨Hi, ⟨%tbl, %hPk, Ht⟩, ⟨%fo, Ho⟩⟩, Hb, Hs, HO⟩
  have hset : (oSl i v12V).view.set = oSet (wid (i 0).val (i 1).val) := (set_oSl v12V i).trans Finset.map_refl
  iapply (wp_wand frame (wpE (defs₀ (F := F)) 𝒱₀ (thr d i) none)) $$ [Hi Ht Ho Hb Hs HO]
  · iapply (task_run d i v4V v11V v12V s0V s1V hF (Memref.isWhole_whole _) (Memref.isWhole_whole _) (Memref.isWhole_whole _) (Memref.isWhole_whole _) (Memref.isWhole_whole _)
      cc1_scratch2 cc1_scoped0 cc1_scoped1 (shr (wid (i 0).val (i 1).val)) (shr (wid (i 0).val (i 1).val)) (View.set_whole _) (View.set_whole _)
      (show (cc1_scratch1 : Ref sig .scVector) ≠ cc1_scratch0 by decide) rfl rfl (by decide) (by decide) (by decide) (by decide) (by decide) (by decide)
      I tbl (fun x => hI _) O W hO)
    isplitr; · iexact Hlv
    isplitl [Hi]; · iexact Hi
    isplitl [Ht]; · iexact Ht
    isplitl [Ho]; · iexists fo; rw [hset]; iexact Ho
    isplitl [Hb]; · iexact Hb
    isplitl [Hs] <;> iassumption
  iintro %_ ⟨⟨%f, %hf, Ho⟩, Hb, Hs, HO⟩
  isplitl [Ho]
  · unfold td0; iexists f; isplitr
    · ipureintro; exact gathered_of i Pk I tbl f hPk (fun x => hI _) hf
    · rw [hset]; iexact Ho
  isplitl [Hb]; · iexact Hb
  isplitl [Hs] <;> iassumption

set_option maxRecDepth 16384 in
theorem items_task (Pk : (S253952x128.Idx → Elt F .f32) → Prop) (I : S16384.Idx → BitVec 32) (hI : InTable I) :
    iprop((levAts (K (F := F)).L (K (F := F)).lev : sProp 𝕄) ∗ emp ∗ go1 Pk I d (wid (i 0).val (i 1).val)
        ∗ scopedBufs (thr d i) ∗ scopedSems0 (thr d i) ∗ owes (thr d i) O W)
      ⊢ wp frame (wpE (defs₀ (F := F)) 𝒱₀ (thr d i) none) Set.univ
          (cc3_sc_packed_gather i v9V (Memref.isWhole_whole _) v14V (Memref.isWhole_whole _) v15V (Memref.isWhole_whole _)
            t0V (Memref.isWhole_whole _) t1V (Memref.isWhole_whole _) cc3_scratch2 cc3_scoped0 cc3_scoped1)
          fun _ => iprop(td1 Pk I d (wid (i 0).val (i 1).val) ∗ scopedBufs (thr d i) ∗ scopedSems0 (thr d i)
            ∗ ∃ W', ⌜∀ p ∈ W', p ∈ W ∨ p.2 = none⌝ ∗ owes (thr d i) O W') := by
  rw [cc3_eq]
  unfold go1
  iintro ⟨#Hlv, -, ⟨Hi, ⟨%tbl, %hPk, Ht⟩, ⟨%fo, Ho⟩⟩, Hb, Hs, HO⟩
  have hset : (oSl i v15V).view.set = oSet (wid (i 0).val (i 1).val) := (set_oSl v15V i).trans Finset.map_refl
  iapply (wp_wand frame (wpE (defs₀ (F := F)) 𝒱₀ (thr d i) none)) $$ [Hi Ht Ho Hb Hs HO]
  · iapply (task_run d i v9V v14V v15V t0V t1V hF (Memref.isWhole_whole _) (Memref.isWhole_whole _) (Memref.isWhole_whole _) (Memref.isWhole_whole _) (Memref.isWhole_whole _)
      cc3_scratch2 cc3_scoped0 cc3_scoped1 (shr (wid (i 0).val (i 1).val)) (shr (wid (i 0).val (i 1).val)) (View.set_whole _) (View.set_whole _)
      (show (cc3_scratch1 : Ref sig .scVector) ≠ cc3_scratch0 by decide) rfl rfl (by decide) (by decide) (by decide) (by decide) (by decide) (by decide)
      I tbl (fun x => hI _) O W hO)
    isplitr; · iexact Hlv
    isplitl [Hi]; · iexact Hi
    isplitl [Ht]; · iexact Ht
    isplitl [Ho]; · iexists fo; rw [hset]; iexact Ho
    isplitl [Hb]; · iexact Hb
    isplitl [Hs] <;> iassumption
  iintro %_ ⟨⟨%f, %hf, Ho⟩, Hb, Hs, HO⟩
  isplitl [Ho]
  · unfold td1; iexists f; isplitr
    · ipureintro; exact gathered_of i Pk I tbl f hPk (fun x => hI _) hf
    · rw [hset]; iexact Ho
  isplitl [Hb]; · iexact Hb
  isplitl [Hs] <;> iassumption

end

set_option maxRecDepth 16384 in
theorem tileObl_users (hF : (K (F := F)).Facts) (hI : ∀ q d, InTable (I q d)) : (K (F := F)).TileObl (D (F := F)) 𝒱 (P Pk I) v₀ 0 := by
  intro d c i O W hO _ _
  simp only [show (P Pk I).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_users]; simp only [SparseCore.onTile, hci, and_self, ↓reduceDIte]
  exact (users_task d (coordsV ⟨_, hci.1⟩ ⟨_, hci.2⟩) hF O W hO (Pk 0 d) (I 0 d) (hI 0 d)).trans (wp_mono frame _ _ fun _ => obl_post)

set_option maxRecDepth 16384 in
theorem tileObl_items (hF : (K (F := F)).Facts) (hI : ∀ q d, InTable (I q d)) : (K (F := F)).TileObl (D (F := F)) 𝒱 (P Pk I) v₀ 1 := by
  intro d c i O W hO _ _
  simp only [show (P Pk I).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_items]; simp only [SparseCore.onTile, hci, and_self, ↓reduceDIte]
  exact (items_task d (coordsV ⟨_, hci.1⟩ ⟨_, hci.2⟩) hF O W hO (Pk 1 d) (I 1 d) (hI 1 d)).trans (wp_mono frame _ _ fun _ => obl_post)

end Cert.Proof.Run

end
-- ==== Proof.Kernels.lean ====
/-
  The two kernels of the TensorCore on the blocks they are handed: what a packing block and a dense block compute.
-/
module

public import proofs.«01_k».proof.Proof.Calls

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- The `k`-th quarter of a block of the transposed table: its columns from `8192 * k`. -/
def quarter (X : S32x32768.Idx → Elt F .f32) (o : ℕ) (h : ∀ a, (![0, o] : Fin 2 → ℕ) a + S32x8192.size a ≤ S32x32768.size a) : S32x8192.Idx → Elt F .f32 :=
  fun x => X ((Rect.unit (s := S32x32768) ![0, o] S32x8192.size h).emb x)

/-- What a packing block computes of a block of the transposed table. -/
def packOf (X : S32x32768.Idx → Elt F .f32) : S8192x128.Idx → Elt F .f32 :=
  k0_pay1 (quarter X 0 inb_S32x32768_S32x8192_0_0) (quarter X 8192 inb_S32x32768_S32x8192_0_8192) (quarter X 16384 inb_S32x32768_S32x8192_0_16384)
    (quarter X 24576 inb_S32x32768_S32x8192_0_24576)

/-- What a whole load reads is the contents. -/
theorem whole_emb {s : Shape} {off : Fin s.rank → ℕ} (h0 : off = fun _ => 0) (h : ∀ a, off a + s.size a ≤ s.size a) (x : s.Idx) :
    (Rect.unit (s := s) off s.size h).emb x = x := by
  subst h0; exact Rect.emb_whole_apply s x

theorem zero2 : (![0, 0] : Fin 2 → ℕ) = fun _ => 0 := by funext a; fin_cases a <;> rfl

/-- A load of the whole view reads it. -/
theorem readAt_whole_unit {sp : Space} {s : Shape} {e : EltTy} (v : View sig .tc sp s e) (f : v.ty.Contents (Elt F)) {off : Fin s.rank → ℕ} (h0 : off = fun _ => 0)
    (h : ∀ a, off a + s.size a ≤ s.size a) : v.readAt (Elt F) (Rect.unit (s := s) off s.size h).toLoadRect f = v.read (Elt F) f :=
  funext fun x => congrArg (v.read (Elt F) f) (whole_emb h0 h x)

/-- A store of the whole view leaves what it stored. -/
theorem read_writes_whole {sp : Space} {s : Shape} {e : EltTy} {v : View sig .tc sp s e} {f : v.ty.Contents (Elt F)} {off : Fin s.rank → ℕ} (h0 : off = fun _ => 0)
    {h : ∀ a, off a + s.size a ≤ s.size a} {w : s.Idx → Elt F e} :
    v.read (Elt F) (v.writes (Elt F) f [⟨Rect.unit (s := s) off s.size h, w⟩]) = w := by
  funext x
  have := congrFun ((v.slice (Rect.unit (s := s) off s.size h)).read_write_univ f w) x
  rw [← this]
  exact congrArg (v.read (Elt F) _) (whole_emb h0 h x).symm

set_option maxHeartbeats 1000000 in
/-- A packing block's run. -/
theorem pack_body (d : Dev nD) (i : grid0.Coords) (a1 : Memref sig .tc .vmem S32x32768 .f32) (h1 : a1.IsWhole) (a2 : Memref sig .tc .vmem S8192x128 .f32) (h2 : a2.IsWhole)
    (X : S32x32768.Idx → Elt F .f32) (Y : S8192x128.Idx → Elt F .f32) :
    (iprop(owns (SparseCore.T d : Thread nD τ) a1 fullShare X ∗ owns (SparseCore.T d : Thread nD τ) a2 fullShare Y) : sProp 𝕄)
      ⊢ wp frame (wpE (defs₀ (F := F)) 𝒱₀ (SparseCore.T d) none) Set.univ (cc0__tc_pack_body_skel i a1 h1 a2 h2)
          fun _ => iprop(owns (SparseCore.T d : Thread nD τ) a1 fullShare X ∗ owns (SparseCore.T d : Thread nD τ) a2 fullShare (packOf X)) := by
  unfold cc0__tc_pack_body_skel owns
  iintro ⟨⟨%f, %hf, H1⟩, ⟨%g, %hg, H2⟩⟩
  sl_exec
  sl_step
  isplitl [H1]
  · iexists f; isplitr; · ipureintro; exact hf
    iexact H1
  iexists _; isplitr; swap; · iexact H2
  ipureintro
  rw [read_writes_whole zero2]
  subst hf; rfl

/-- What a dense block computes of the gathered lines, the phases, and the two layers' weights and biases. -/
def denseOf (U I : S2048x128.Idx → Elt F .f32) (pu pi : S2048x1.Idx → Elt F .i32) (Wu : S32x32.Idx → Elt F .f32) (bu : S1x32.Idx → Elt F .f32)
    (Wi : S32x32.Idx → Elt F .f32) (bi : S1x32.Idx → Elt F .f32) : S2048x1.Idx → Elt F .f32 :=
  k4_pay1 (k4_pay7 (k4_pay2 U pu) Wu bu) (k4_pay8 (k4_pay3 I) (k4_pay4 (F := F) pi) k4_pay5 (k4_pay6 (F := F) pi) Wi bi)

set_option maxHeartbeats 2000000 in
/-- A dense block's run. -/
theorem dense_body (d : Dev nD) (i : grid4.Coords) (a1 : Memref sig .tc .vmem S2048x128 .f32) (h1 : a1.IsWhole) (a2 : Memref sig .tc .vmem S2048x128 .f32) (h2 : a2.IsWhole)
    (a3 : Memref sig .tc .vmem S2048x1 .i32) (h3 : a3.IsWhole) (a4 : Memref sig .tc .vmem S2048x1 .i32) (h4 : a4.IsWhole)
    (a5 : Memref sig .tc .vmem S32x32 .f32) (h5 : a5.IsWhole) (a6 : Memref sig .tc .vmem S1x32 .f32) (h6 : a6.IsWhole)
    (a7 : Memref sig .tc .vmem S32x32 .f32) (h7 : a7.IsWhole) (a8 : Memref sig .tc .vmem S1x32 .f32) (h8 : a8.IsWhole)
    (a9 : Memref sig .tc .vmem S2048x1 .f32) (h9 : a9.IsWhole)
    (U I : S2048x128.Idx → Elt F .f32) (pu pi : S2048x1.Idx → Elt F .i32) (Wu : S32x32.Idx → Elt F .f32) (bu : S1x32.Idx → Elt F .f32)
    (Wi : S32x32.Idx → Elt F .f32) (bi : S1x32.Idx → Elt F .f32) (Y : S2048x1.Idx → Elt F .f32) :
    (iprop(owns (SparseCore.T d : Thread nD τ) a1 fullShare U ∗ owns (SparseCore.T d : Thread nD τ) a2 fullShare I
        ∗ owns (SparseCore.T d : Thread nD τ) a3 fullShare pu ∗ owns (SparseCore.T d : Thread nD τ) a4 fullShare pi
        ∗ owns (SparseCore.T d : Thread nD τ) a5 fullShare Wu ∗ owns (SparseCore.T d : Thread nD τ) a6 fullShare bu
        ∗ owns (SparseCore.T d : Thread nD τ) a7 fullShare Wi ∗ owns (SparseCore.T d : Thread nD τ) a8 fullShare bi
        ∗ owns (SparseCore.T d : Thread nD τ) a9 fullShare Y) : sProp 𝕄)
      ⊢ wp frame (wpE (defs₀ (F := F)) 𝒱₀ (SparseCore.T d) none) Set.univ (cc4__tc_dense_body_skel i a1 h1 a2 h2 a3 h3 a4 h4 a5 h5 a6 h6 a7 h7 a8 h8 a9 h9)
          fun _ => iprop(owns (SparseCore.T d : Thread nD τ) a1 fullShare U ∗ owns (SparseCore.T d : Thread nD τ) a2 fullShare I
        ∗ owns (SparseCore.T d : Thread nD τ) a3 fullShare pu ∗ owns (SparseCore.T d : Thread nD τ) a4 fullShare pi
        ∗ owns (SparseCore.T d : Thread nD τ) a5 fullShare Wu ∗ owns (SparseCore.T d : Thread nD τ) a6 fullShare bu
        ∗ owns (SparseCore.T d : Thread nD τ) a7 fullShare Wi ∗ owns (SparseCore.T d : Thread nD τ) a8 fullShare bi
        ∗ owns (SparseCore.T d : Thread nD τ) a9 fullShare (denseOf U I pu pi Wu bu Wi bi)) := by
  unfold cc4__tc_dense_body_skel owns
  rw [k4_part1_eq_skeleton, k4_part2_eq_skeleton]
  unfold k4_part1_skel k4_part2_skel
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩
  sl_exec
  sl_step
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  iexists _; isplitr; swap; · iexact H9
  ipureintro
  rw [read_writes_whole zero2]
  unfold denseOf
  rw [← (readAt_whole_unit a1.view f1 zero2 inb_S2048x128_S2048x128_0_0).trans e1, ← (readAt_whole_unit a2.view f2 zero2 inb_S2048x128_S2048x128_0_0).trans e2,
    ← (readAt_whole_unit a3.view f3 zero2 inb_S2048x1_S2048x1_0_0).trans e3, ← (readAt_whole_unit a4.view f4 zero2 inb_S2048x1_S2048x1_0_0).trans e4,
    ← (readAt_whole_unit a5.view f5 zero2 inb_S32x32_S32x32_0_0).trans e5, ← (readAt_whole_unit a6.view f6 zero2 inb_S1x32_S1x32_0_0).trans e6,
    ← (readAt_whole_unit a7.view f7 zero2 inb_S32x32_S32x32_0_0).trans e7, ← (readAt_whole_unit a8.view f8 zero2 inb_S1x32_S1x32_0_0).trans e8]

end Cert.Proof.Run

end
-- ==== Proof.Regions.lean ====
/-
  The three pallas_calls as regions of the program: what each one's arrays may hold after it.
-/
module

public import proofs.«01_k».proof.Proof.Kernels
public import Idealize.ShloMosaic.Lib.Pipeline.FrameBody
public import Idealize.ShloMosaic.Lib.Pipeline.ArrRel
public import Idealize.ShloMosaic.Lib.Pipeline.RegionArrays

@[expose] public section

noncomputable section

namespace Cert.Proof.Run

open Cert.KernelIdeal Cert.KernelIdeal.Gen
open Idealize.ShloMosaic
open Idealize.ShloMosaic.Pipeline (RDat pin)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- No table is prefetched. -/
abbrev adm : (p : Fin 3) → (pcfgs (F := F) p).Adm := fun p => (cfgs p).toPCfg_adm

/-- What a fetch of window `w` at point `t` may leave in the staging buffer, the window's array holding what `V` says. -/
def Staged (cfg : Pipeline.Cfg sig Λ₀) (V : Valuation τ sig (Elt F)) (w : Fin cfg.W) (t : Fin cfg.N) (X : (cfg.win w).block.Idx → Elt F (cfg.win w).elt) : Prop :=
  ∃ d, X = (cfg.win w).fill (cfg.grid.coords t) d (((cfg.win w).blk t).view.read (Elt F) (V (Proc.devRef .tc (cfg.win w).arr.view.ref)))

/-- What the packing body of the users' table leaves. -/
def after0 (V : Valuation τ sig (Elt F)) : (w : Fin cfg0.W) → Fin cfg0.N → (Y X : (cfg0.win w).block.Idx → Elt F (cfg0.win w).elt) → Prop
  | 0 => fun _ Y X => X = Y
  | 1 => fun t _ X => ∃ Z, Staged cfg0 V 0 t Z ∧ X = packOf Z

/-- What the packing body of the items' table leaves. -/
def after2 (V : Valuation τ sig (Elt F)) : (w : Fin cfg2.W) → Fin cfg2.N → (Y X : (cfg2.win w).block.Idx → Elt F (cfg2.win w).elt) → Prop
  | 0 => fun _ Y X => X = Y
  | 1 => fun t _ X => ∃ Z, Staged cfg2 V 0 t Z ∧ X = packOf Z

/-- What the dense body leaves. -/
def after4 (V : Valuation τ sig (Elt F)) : (w : Fin cfg4.W) → Fin cfg4.N → (Y X : (cfg4.win w).block.Idx → Elt F (cfg4.win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun _ Y X => X = Y
  | 8 => fun t _ X => ∃ U I pu pi Wu bu Wi bi, Staged cfg4 V 0 t U ∧ Staged cfg4 V 1 t I ∧ Staged cfg4 V 2 t pu ∧ Staged cfg4 V 3 t pi
      ∧ Staged cfg4 V 4 t Wu ∧ Staged cfg4 V 5 t bu ∧ Staged cfg4 V 6 t Wi ∧ Staged cfg4 V 7 t bi ∧ X = denseOf U I pu pi Wu bu Wi bi

/-- The data of a region whose arrays hold what `V` says at entry, after `n` SparseCore calls: the core owes what it owes
    between the calls, and its waits are recorded below them. -/
def rdOf (cfg : Pipeline.Cfg sig Λ₀) (c : Dev nD) (V : Valuation τ sig (Elt F)) (n : ℕ)
    (after : (w : Fin cfg.W) → Fin cfg.N → (Y X : (cfg.win w).block.Idx → Elt F (cfg.win w).elt) → Prop) :
    RDat τ (Elt F) (HIx 2) ℕ UU ℕ cfg c where
  A := fun w => V (Proc.devRef .tc (cfg.win w).arr.view.ref)
  after := after
  Φ := fun _ => Pipeline.scopedRest cfg.spec c
  q := fun _ => fullShare
  owed := fun _ => (K (F := F)).Otc c n
  recorded := fun _ => {p | (K (F := F)).lev (SparseCore.T c, p.1) p.2 ≤ 8 * n}

/-- What the three bodies leave. -/
def afters (V : Valuation τ sig (Elt F)) : (p : Fin 3) → (w : Fin (pin (pcfgs (F := F)) adm p).W) → Fin (pin (pcfgs (F := F)) adm p).N →
    (Y X : ((pin (pcfgs (F := F)) adm p).win w).block.Idx → Elt F ((pin (pcfgs (F := F)) adm p).win w).elt) → Prop
  | 0 => after0 V
  | 1 => after2 V
  | 2 => after4 V

/-- The three regions' data. -/
def rdat (V : Valuation τ sig (Elt F)) (n : ℕ) (p : Fin 3) (c : Dev nD) : RDat τ (Elt F) (HIx 2) ℕ UU ℕ (pin (pcfgs (F := F)) adm p) c :=
  rdOf (pin (pcfgs (F := F)) adm p) c V n (afters V p)

/-- An input window holds what a fetch leaves. -/
theorem staged_of_finds [∀ e, Nonempty (Elt F e)] (cfg : Pipeline.Cfg sig Λ₀) (c : Dev nD) (V : Valuation τ sig (Elt F)) (n : ℕ) (after) (w : Fin cfg.W) (hw : (cfg.win w).isOut = false)
    (hclip : ∀ t t' : Fin cfg.N, (cfg.win w).index t = (cfg.win w).index t' →
      (cfg.win w).clip (cfg.grid.coords t) = (cfg.win w).clip (cfg.grid.coords t'))
    (hkeep : ∀ t Y X, after w t Y X → X = Y) (t : Fin cfg.N) (Y) (h : (rdOf cfg c V n after).Finds w t Y) : Staged cfg V w t Y :=
  (rdOf cfg c V n after).finds_in_eq_fetched w hw hclip hkeep t Y h

/-- The same of a window fetched at every point. -/
theorem staged_of_fetch [∀ e, Nonempty (Elt F e)] (cfg : Pipeline.Cfg sig Λ₀) (c : Dev nD) (V : Valuation τ sig (Elt F)) (n : ℕ) (after) (w : Fin cfg.W) (t : Fin cfg.N)
    (hf : (cfg.win w).fetch t = true) (Y) (h : (rdOf cfg c V n after).Finds w t Y) : Staged cfg V w t Y :=
  ((rdOf cfg c V n after).finds_of_fetch hf Y).mp h

theorem entails_of_eq {M : Type} [URA M] {P Q : sProp M} (h : P = Q) : P ⊢ Q := h ▸ BI.Entails.refl _

/-- A body that takes the windows' buffers to what it may leave there meets its obligation. -/
theorem obligation_of (cfg : Pipeline.Cfg sig Λ₀) (c : Dev nD) (V : Valuation τ sig (Elt F)) (n : ℕ) (after)
    (h : ∀ (t : Fin cfg.N) (Y : (w : Fin cfg.W) → (cfg.win w).block.Idx → Elt F (cfg.win w).elt), (∀ w, (rdOf cfg c V n after).Finds w t (Y w)) →
      (bigSep Finset.univ (fun w => owns (SparseCore.T c : Thread nD τ) ((cfg.win w).stage (cfg.slots t w)) fullShare (Y w)) : sProp 𝕄)
        ⊢ wp frame (wpE (defs₀ (F := F)) 𝒱₀ (SparseCore.T c) none) Set.univ (defs₀ (F := F) .tc cfg.body (cfg.bodyArgs t (cfg.slots t))) fun _ =>
            bigSep Finset.univ fun w => iprop(∃ X, ⌜after w t (Y w) X⌝ ∗ owns (SparseCore.T c : Thread nD τ) ((cfg.win w).stage (cfg.slots t w)) fullShare X)) :
    (rdOf cfg c V n after).BodyObligation defs₀ 𝒱₀ none Set.univ := by
  intro t Y hY
  iintro ⟨HΦ, Ho, H⟩
  iapply (wp_wand frame (wpE (defs₀ (F := F)) 𝒱₀ (SparseCore.T c) none)) $$ [H]
  · iapply (h t Y hY); iexact H
  · iintro %_ H
    isplitl [HΦ]; · iapply (show (rdOf cfg c V n after).Φ t.castSucc ⊢ (rdOf cfg c V n after).Φ t.succ from BI.Entails.refl _); iexact HΦ
    isplitl [Ho]; · iapply (show (rdOf cfg c V n after).owesAt none t.castSucc ⊢ (rdOf cfg c V n after).owesAt none t.succ from BI.Entails.refl _); iexact Ho
    iexact H

/-- The users' packing region meets its obligation at every block. -/
theorem body0 [∀ e, Nonempty (Elt F e)] (V : Valuation τ sig (Elt F)) (n : ℕ) (c : Dev nD) : (rdOf (F := F) cfg0 c V n (after0 V)).BodyObligation defs₀ 𝒱₀ none Set.univ := by
  refine obligation_of cfg0 c V n (after0 V) fun t Y hY => ?_
  have h0 : Staged cfg0 V 0 t (Y 0) := staged_of_fetch cfg0 c V n (after0 V) 0 t (fetch0_0 t) _ (hY 0)
  rw [bigSep_W0, bigSep_W0]
  show _ ⊢ wp frame (wpE defs₀ 𝒱₀ (SparseCore.T c) none) Set.univ (cc0__tc_pack_body (grid0.coords t) (win0_0.stage (cfg0.slots t 0)) (hstage0_0 ((cfg0.slots t 0).cast nbuf0_0)) (win0_1.stage (cfg0.slots t 1)) (hstage0_1 ((cfg0.slots t 1).cast nbuf0_1))) _
  rw [cc0__tc_pack_body_eq_skeleton]
  refine (pack_body c _ _ _ _ _ (Y 0) (Y 1)).trans (wp_mono _ _ _ fun _ => ?_)
  iintro ⟨H0, H1⟩
  isplitl [H0]
  · iexists (Y 0); isplitr; · ipureintro; exact rfl
    iexact H0
  · iexists (packOf (Y 0)); isplitr; · ipureintro; exact ⟨Y 0, h0, rfl⟩
    iexact H1

/-- The two packing bodies are one. -/
theorem pack_skel_eq (i : grid2.Coords) (j : grid0.Coords) (a1 : Memref sig .tc .vmem S32x32768 .f32) (h1 : a1.IsWhole) (a2 : Memref sig .tc .vmem S8192x128 .f32) (h2 : a2.IsWhole) :
    cc2__tc_pack_body_skel (F := F) i a1 h1 a2 h2 = cc0__tc_pack_body_skel j a1 h1 a2 h2 := rfl

/-- The items' packing region meets its obligation at every block. -/
theorem body2 [∀ e, Nonempty (Elt F e)] (V : Valuation τ sig (Elt F)) (n : ℕ) (c : Dev nD) : (rdOf (F := F) cfg2 c V n (after2 V)).BodyObligation defs₀ 𝒱₀ none Set.univ := by
  refine obligation_of cfg2 c V n (after2 V) fun t Y hY => ?_
  have h0 : Staged cfg2 V 0 t (Y 0) := staged_of_fetch cfg2 c V n (after2 V) 0 t (fetch2_0 t) _ (hY 0)
  rw [bigSep_W2, bigSep_W2]
  show _ ⊢ wp frame (wpE defs₀ 𝒱₀ (SparseCore.T c) none) Set.univ (cc2__tc_pack_body (grid2.coords t) (win2_0.stage (cfg2.slots t 0)) (hstage2_0 ((cfg2.slots t 0).cast nbuf2_0)) (win2_1.stage (cfg2.slots t 1)) (hstage2_1 ((cfg2.slots t 1).cast nbuf2_1))) _
  rw [cc2__tc_pack_body_eq_skeleton, pack_skel_eq _ (grid0.coords t)]
  refine (pack_body c _ _ _ _ _ (Y 0) (Y 1)).trans (wp_mono _ _ _ fun _ => ?_)
  iintro ⟨H0, H1⟩
  isplitl [H0]
  · iexists (Y 0); isplitr; · ipureintro; exact rfl
    iexact H0
  · iexists (packOf (Y 0)); isplitr; · ipureintro; exact ⟨Y 0, h0, rfl⟩
    iexact H1

/-- What an input window's buffer gives back. -/
theorem kept {sp : Space} {s : Shape} {e : EltTy} (c : Dev nD) (a : Memref sig .tc sp s e) (Y : s.Idx → Elt F e) (R : (s.Idx → Elt F e) → Prop) (h : R Y) :
    (owns (SparseCore.T c : Thread nD τ) a fullShare Y : sProp 𝕄) ⊢ iprop(∃ X, ⌜R X⌝ ∗ owns (SparseCore.T c : Thread nD τ) a fullShare X) := by
  iintro H; iexists Y; isplitr; · ipureintro; exact h
  iexact H

/-- The dense region meets its obligation at every block. -/
theorem body4 [∀ e, Nonempty (Elt F e)] (V : Valuation τ sig (Elt F)) (n : ℕ) (c : Dev nD) : (rdOf (F := F) cfg4 c V n (after4 V)).BodyObligation defs₀ 𝒱₀ none Set.univ := by
  refine obligation_of cfg4 c V n (after4 V) fun t Y hY => ?_
  have h0 : Staged cfg4 V 0 t (Y 0) := staged_of_finds cfg4 c V n (after4 V) 0 rfl (fun _ _ _ => rfl) (fun _ _ _ h => h) t _ (hY 0)
  have h1 : Staged cfg4 V 1 t (Y 1) := staged_of_finds cfg4 c V n (after4 V) 1 rfl (fun _ _ _ => rfl) (fun _ _ _ h => h) t _ (hY 1)
  have h2 : Staged cfg4 V 2 t (Y 2) := staged_of_finds cfg4 c V n (after4 V) 2 rfl (fun _ _ _ => rfl) (fun _ _ _ h => h) t _ (hY 2)
  have h3 : Staged cfg4 V 3 t (Y 3) := staged_of_finds cfg4 c V n (after4 V) 3 rfl (fun _ _ _ => rfl) (fun _ _ _ h => h) t _ (hY 3)
  have h4 : Staged cfg4 V 4 t (Y 4) := staged_of_finds cfg4 c V n (after4 V) 4 rfl (fun _ _ _ => rfl) (fun _ _ _ h => h) t _ (hY 4)
  have h5 : Staged cfg4 V 5 t (Y 5) := staged_of_finds cfg4 c V n (after4 V) 5 rfl (fun _ _ _ => rfl) (fun _ _ _ h => h) t _ (hY 5)
  have h6 : Staged cfg4 V 6 t (Y 6) := staged_of_finds cfg4 c V n (after4 V) 6 rfl (fun _ _ _ => rfl) (fun _ _ _ h => h) t _ (hY 6)
  have h7 : Staged cfg4 V 7 t (Y 7) := staged_of_finds cfg4 c V n (after4 V) 7 rfl (fun _ _ _ => rfl) (fun _ _ _ h => h) t _ (hY 7)
  rw [bigSep_W4, bigSep_W4]
  show _ ⊢ wp frame (wpE defs₀ 𝒱₀ (SparseCore.T c) none) Set.univ (cc4__tc_dense_body (grid4.coords t) (win4_0.stage (cfg4.slots t 0)) (hstage4_0 ((cfg4.slots t 0).cast nbuf4_0))
    (win4_1.stage (cfg4.slots t 1)) (hstage4_1 ((cfg4.slots t 1).cast nbuf4_1)) (win4_2.stage (cfg4.slots t 2)) (hstage4_2 ((cfg4.slots t 2).cast nbuf4_2))
    (win4_3.stage (cfg4.slots t 3)) (hstage4_3 ((cfg4.slots t 3).cast nbuf4_3)) (win4_4.stage (cfg4.slots t 4)) (hstage4_4 ((cfg4.slots t 4).cast nbuf4_4))
    (win4_5.stage (cfg4.slots t 5)) (hstage4_5 ((cfg4.slots t 5).cast nbuf4_5)) (win4_6.stage (cfg4.slots t 6)) (hstage4_6 ((cfg4.slots t 6).cast nbuf4_6))
    (win4_7.stage (cfg4.slots t 7)) (hstage4_7 ((cfg4.slots t 7).cast nbuf4_7)) (win4_8.stage (cfg4.slots t 8)) (hstage4_8 ((cfg4.slots t 8).cast nbuf4_8))) _
  rw [cc4__tc_dense_body_eq_skeleton]
  refine (dense_body c _ _ _ _ _ _ _ _ _ _ _ _ _ _ _ _ _ _ _ (Y 0) (Y 1) (Y 2) (Y 3) (Y 4) (Y 5) (Y 6) (Y 7) (Y 8)).trans (wp_mono _ _ _ fun _ => ?_)
  exact BI.sep_mono (kept c _ _ _ rfl) (BI.sep_mono (kept c _ _ _ rfl) (BI.sep_mono (kept c _ _ _ rfl) (BI.sep_mono (kept c _ _ _ rfl) (BI.sep_mono (kept c _ _ _ rfl)
    (BI.sep_mono (kept c _ _ _ rfl) (BI.sep_mono (kept c _ _ _ rfl) (BI.sep_mono (kept c _ _ _ rfl)
      (kept c _ _ _ ⟨Y 0, Y 1, Y 2, Y 3, Y 4, Y 5, Y 6, Y 7, h0, h1, h2, h3, h4, h5, h6, h7, rfl⟩))))))))

/-! ## The regions -/

/-- The core owes the pallas_calls' waits nothing. -/
theorem otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this
  omega

theorem pinj : Function.Injective (Pipeline.cellOf (nD := nD) (τ := τ) (pin (pcfgs (F := F)) adm)) := cellOf_inj

/-- No semaphore of a kernel's own. -/
def ownNone (p : Fin 3) : Pipeline.OwnSemFacts (pcfgs (F := F) p).spec (fun e : Empty => e.elim) :=
  ⟨fun e => e.elim, fun e => e.elim, fun e => e.elim⟩

theorem ownSems_none (c : Dev nD) : (Pipeline.ownSems0 (fun e : Empty => (e.elim : SemLoc sig)) c : sProp 𝕄) = BI.emp := by
  unfold Pipeline.ownSems0; rw [Finset.univ_eq_empty, BI.bigSep_empty]

/-- A region. -/
def seg [∀ e, Nonempty (Elt F e)] (V : Valuation τ sig (Elt F)) (n : ℕ) (p : Fin 3)
    (hw : Pipeline.WinFacts₀ (pcfgs (F := F) p).spec)
    (hb : ∀ w : Fin (pin (pcfgs (F := F)) adm p).W, 0 < ((pin (pcfgs (F := F)) adm p).spec w).block.numel)
    (hs : ∀ (w : Fin (pin (pcfgs (F := F)) adm p).W) (s : Fin ((pin (pcfgs (F := F)) adm p).spec w).nbuf), (((pin (pcfgs (F := F)) adm p).spec w).stage s).IsWhole)
    (hbody : ∀ c, (rdat (F := F) V n p c).BodyObligation defs₀ 𝒱₀ none Set.univ)
    (hP : (pcfgs (F := F) p).pre.K = 0) :
    RDat.RegionSeg (pcfgs (F := F)) adm (rdat V n) none defs₀ 𝒱₀ (K (F := F)).L (K (F := F)).lev p where
  win := hw
  block_pos := hb
  stage_whole := hs
  K := Empty
  osem := fun e => e.elim
  ho := ownNone p
  hbody := hbody
  hwaits := fun c => RDat.cellsWaits_intro _ _ _ p c fun w s t => by
    exact (K (F := F)).mayWait_none _ (otc_none c n)
  pre := fun c => iprop((rdat V n p c).arrays (rdat V n p c).A ∗ (rdat V n p c).owesAt none 0)
  post := fun c => iprop((rdat V n p c).arraysAt (pin (pcfgs (F := F)) adm p).N ∗ (rdat V n p c).owesAt none (Fin.last (pin (pcfgs (F := F)) adm p).N))
  X := fun _ => BI.emp
  Y := fun _ => BI.emp
  Z := fun _ => BI.emp
  hentry := fun c => by
    rw [ownSems_none, Pipeline.prefHeld_of_none _ hP]
    iintro ⟨⟨Ha, Ho⟩, -, -⟩
    imodintro
    isplitl [Ha]; · iexact Ha
    isplitr; · iempintro
    isplitl [Ho]; · iexact Ho
    isplitr; · iempintro
    iempintro
  hin := fun c => by
    show _ ⊢ Pipeline.scopedRest (pin (pcfgs (F := F)) adm p).spec c
    iintro ⟨-, -, H⟩; iexact H
  hout := fun c => by
    rw [ownSems_none]
    show Pipeline.scopedRest (pin (pcfgs (F := F)) adm p).spec c ⊢ _
    iintro H
    isplitr; · iempintro
    isplitr; · iempintro
    iexact H
  hexit := fun c => by
    iintro ⟨Ha, Ho, -, -⟩
    imodintro
    isplitl [Ha]; · iexact Ha
    iexact Ho

def seg0 [∀ e, Nonempty (Elt F e)] (V : Valuation τ sig (Elt F)) (n : ℕ) :=
  seg (F := F) V n 0 launch0.win.to₀ block_pos0 stage_whole0 (body0 V n) rfl
def seg2 [∀ e, Nonempty (Elt F e)] (V : Valuation τ sig (Elt F)) (n : ℕ) :=
  seg (F := F) V n 1 launch2.win.to₀ block_pos2 stage_whole2 (body2 V n) rfl
def seg4 [∀ e, Nonempty (Elt F e)] (V : Valuation τ sig (Elt F)) (n : ℕ) :=
  seg (F := F) V n 2 launch4.win.to₀ block_pos4 stage_whole4 (body4 V n) rfl

end Cert.Proof.Run

end
-- ==== Proof.Steps.lean ====
/-
  A region as one step of the program: the arrays it takes and gives back.
-/
module

public import proofs.«01_k».proof.Proof.Regions

@[expose] public section

noncomputable section

namespace Cert.Proof.Run

open Cert.KernelIdeal Cert.KernelIdeal.Gen
open Idealize.ShloMosaic
open Idealize.ShloMosaic.Pipeline (RDat pin)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 2) (Elt F) ℕ UU ℕ

/-- The core's account between the calls, as a region holds it. -/
theorem owes_in (V : Valuation τ sig (Elt F)) (n : ℕ) (p : Fin 3) (c : Dev nD) :
    (iprop(∃ W, ⌜(K (F := F)).WBelow (SparseCore.T c) W (8 * n)⌝ ∗ owes (SparseCore.T c) ((K (F := F)).Otc c n) W) : sProp 𝕄) ⊢ (rdat V n p c).owesAt none 0 := by
  iintro ⟨%W, %hW, H⟩
  iexists W
  isplitr
  · ipureintro; exact fun q hq => Or.inl (hW q hq)
  · iexact H

/-- The account a region leaves. -/
theorem owes_out (V : Valuation τ sig (Elt F)) (n : ℕ) (p : Fin 3) (c : Dev nD) :
    (rdat V n p c).owesAt none (Fin.last _) ⊢ (iprop(∃ W, ⌜(K (F := F)).WBelow (SparseCore.T c) W (8 * n)⌝ ∗ owes (SparseCore.T c) ((K (F := F)).Otc c n) W) : sProp 𝕄) := by
  iintro ⟨%W, %hW, H⟩
  iexists W
  isplitr
  · ipureintro
    intro q hq
    rcases hW hq with h | ⟨w, s, rfl⟩
    · exact h
    · rw [SparseCore.Cfg.lev_none]; exact Nat.zero_le _
  · iexact H

/-- The rest of the core's state between the calls. -/
def tcRest (d : Dev nD) (n : ℕ) : sProp 𝕄 :=
  iprop(Rounds.atPos EH ((K (F := F)).doneCell d) n ∅ 0 ∗ Rounds.reached EH ((K (F := F)).doneCell d) n
    ∗ (bigSep Finset.univ fun c : Fin τ.nSC => Rounds.reached EH ((K (F := F)).startCell d c) ((K (F := F)).sRank c n))
    ∗ bigSep (SparseCore.Cfg.callsFrom n) fun q => bigSep Finset.univ fun c : Fin ((K (F := F)).nCore q) =>
        iprop(Rounds.dutyTok EH ((K (F := F)).startCell d ((K (F := F)).core q c)) ((K (F := F)).sRank ((K (F := F)).core q c) q.val) 0 ∗ cred (tallyAt ((K (F := F)).doneCell d) (some q) 1)))

/-- What goes into a region and what comes around it. -/
theorem step_shape {M : Type} [URA M] {B L O O₁ O₂ R A A₂ G T W : sProp M} (hin : O ⊢ O₁) (hout : O₂ ⊢ O) (hw : iprop(B ∗ (O ∗ R) ∗ A₂) ⊢ W) :
    iprop(B ∗ L ∗ (O ∗ R) ∗ A ∗ G ∗ T) ⊢ iprop((iprop(B ∗ A₂ ∗ O₂) -∗ W) ∗ B ∗ (A ∗ O₁) ∗ L ∗ G ∗ T) := by
  iintro ⟨Hb, Hl, ⟨Ho, Hrest⟩, Ha, Hg, Ht⟩
  isplitl [Hrest]
  · iintro ⟨Hb, Ha, Ho⟩
    iapply hw
    isplitl [Hb]; · iexact Hb
    isplitl [Ho Hrest]
    · isplitl [Ho]
      · iapply hout; iexact Ho
      · iexact Hrest
    · iexact Ha
  isplitl [Hb]; · iexact Hb
  isplitl [Ha Ho]
  · isplitl [Ha]; · iexact Ha
    iapply hin; iexact Ho
  isplitl [Hl]; · iexact Hl
  isplitl [Hg]; · iexact Hg
  iexact Ht

theorem wp_ret' (c : Dev nD) {Q : PUnit → sProp 𝕄} :
    Q ⟨⟩ ⊢ wp frame (wpE (D (F := F)) 𝒱 (SparseCore.T c) none) Set.univ (Prog.ret PUnit.unit) Q := by
  iintro H; sl_step; iexact H

/-- A region of the program: from its arrays at `V` to its arrays at what they may hold after it. -/
theorem region_step (V : Valuation τ sig (Elt F)) (n : ℕ) (p : Fin 3)
    (R : RDat.RegionSeg (pcfgs (F := F)) adm (rdat V n) none defs₀ 𝒱₀ (K (F := F)).L (K (F := F)).lev p)
    (hpre : R.pre = fun c => iprop((rdat V n p c).arrays (rdat V n p c).A ∗ (rdat V n p c).owesAt none 0))
    (hpost : R.post = fun c => iprop((rdat V n p c).arraysAt (pin (pcfgs (F := F)) adm p).N ∗ (rdat V n p c).owesAt none (Fin.last (pin (pcfgs (F := F)) adm p).N)))
    (harr : ∀ w, ((pin (pcfgs (F := F)) adm p).spec w).arr.IsWhole) (c : Dev nD) :
    (iprop(boundary (SparseCore.T c : Thread nD τ) ∗ levAts (K (F := F)).L (K (F := F)).lev ∗ (K (F := F)).tcSt EH c n
        ∗ (bigSep Finset.univ fun w => (((c.tc : Thread nD τ).loc (Pipeline.arrRef (pin (pcfgs (F := F)) adm p).spec w)) ↦{fullShare} (rdat V n p c).A w))
        ∗ Pipeline.cellsGhost (pin (pcfgs (F := F)) adm) EP p c ∗ Pipeline.toksInit (pin (pcfgs (F := F)) adm) EP p c) : sProp 𝕄)
      ⊢ wp frame (wpE ((K (F := F)).defs D) 𝒱 (SparseCore.T c) none) Set.univ (Prog.lift (.customCall (SparseCore.inner (Pipeline.entry p)) ())) fun _ =>
          iprop(boundary (SparseCore.T c : Thread nD τ) ∗ (K (F := F)).tcSt EH c n
            ∗ bigSep Finset.univ fun w => iprop(∃ f, ⌜(rdat V n p c).ArrAt w (pin (pcfgs (F := F)) adm p).N f⌝
                ∗ (((c.tc : Thread nD τ).loc (Pipeline.arrRef (pin (pcfgs (F := F)) adm p).spec w)) ↦{fullShare} f))) := by
  have hshare : ∀ w, (rdat V n p c).share w = fullShare := fun w => by unfold RDat.share; split <;> rfl
  rw [← RDat.arrays_eq (pcfgs (F := F)) adm (rdat V n) p c harr hshare, ← RDat.arraysAt_eq (pcfgs (F := F)) adm (rdat V n) p c harr hshare]
  refine BI.Entails.trans ?_ ((K (F := F)).wp_liftProg D 𝒱 (SparseCore.T c) Set.univ none (.op (.customCall (Pipeline.entry p) ()) .ret) _)
  have hR : (iprop((iprop(boundary (SparseCore.T c : Thread nD τ) ∗ (rdat V n p c).arraysAt (pin (pcfgs (F := F)) adm p).N ∗ (rdat V n p c).owesAt none (Fin.last (pin (pcfgs (F := F)) adm p).N))
          -∗ wp frame (wpE (D (F := F)) 𝒱 (SparseCore.T c) none) Set.univ (Prog.ret PUnit.unit)
            fun _ => iprop(boundary (SparseCore.T c : Thread nD τ) ∗ (K (F := F)).tcSt EH c n ∗ (rdat V n p c).arraysAt (pin (pcfgs (F := F)) adm p).N))
        ∗ boundary (SparseCore.T c : Thread nD τ) ∗ ((rdat V n p c).arrays (rdat V n p c).A ∗ (rdat V n p c).owesAt none 0) ∗ levAts (K (F := F)).L (K (F := F)).lev
        ∗ Pipeline.cellsGhost (pin (pcfgs (F := F)) adm) EP p c ∗ Pipeline.toksInit (pin (pcfgs (F := F)) adm) EP p c) : sProp 𝕄)
      ⊢ wp frame (wpE (D (F := F)) 𝒱 (SparseCore.T c) none) Set.univ (.op (.customCall (Pipeline.entry p) ()) .ret)
          fun _ => iprop(boundary (SparseCore.T c : Thread nD τ) ∗ (K (F := F)).tcSt EH c n ∗ (rdat V n p c).arraysAt (pin (pcfgs (F := F)) adm p).N) := by
    have h := RDat.RegionSeg.wp (pcfgs (F := F)) adm (rdat V n) none pinj EP defs₀ 𝒱₀ (K (F := F)).L (K (F := F)).lev R c none (fun _ h => absurd h (by simp)) Prog.ret
      fun _ => iprop(boundary (SparseCore.T c : Thread nD τ) ∗ (K (F := F)).tcSt EH c n ∗ (rdat V n p c).arraysAt (pin (pcfgs (F := F)) adm p).N)
    rw [hpre, hpost] at h
    exact h
  refine BI.Entails.trans ?_ hR
  exact step_shape (R := tcRest c n) (owes_in V n p c) (owes_out V n p c) (wp_ret' c
    (Q := fun _ => iprop(boundary (SparseCore.T c : Thread nD τ) ∗ (K (F := F)).tcSt EH c n ∗ (rdat V n p c).arraysAt (pin (pcfgs (F := F)) adm p).N)))

end Cert.Proof.Run

end
-- ==== Proof.Steps3.lean ====
/-
  The three regions at the arrays they name.
-/
module

public import proofs.«01_k».proof.Proof.Steps

@[expose] public section

noncomputable section

namespace Cert.Proof.Run

open Cert.KernelIdeal Cert.KernelIdeal.Gen
open Idealize.ShloMosaic
open Idealize.ShloMosaic.Pipeline (RDat pin)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 2) (Elt F) ℕ UU ℕ

/-- A pallas_call's share of the launch's ghost state. -/
def regGhost (p : Fin 3) (d : Dev nD) : sProp 𝕄 :=
  iprop(Pipeline.cellsGhost (pin (pcfgs (F := F)) adm) EP p d ∗ Pipeline.toksInit (pin (pcfgs (F := F)) adm) EP p d)

/-- A buffer of the TensorCore, whole. -/
abbrev tcBuf (d : Dev nD) (b : Ref sig .tc) (f : b.ty.Contents (Elt F)) : sProp 𝕄 := ((SparseCore.T d : Thread nD τ).loc b) ↦{fullShare} f

/-- What the users' packed table may hold. -/
def Made0 (V : Valuation τ sig (Elt F)) (d : Dev nD) (f : S253952x128.Idx → Elt F .f32) : Prop := (rdOf cfg0 d V 0 (after0 V)).ArrAt 1 cfg0.N f
/-- What the items' packed table may hold. -/
def Made2 (V : Valuation τ sig (Elt F)) (d : Dev nD) (f : S253952x128.Idx → Elt F .f32) : Prop := (rdOf cfg2 d V 1 (after2 V)).ArrAt 1 cfg2.N f
/-- What the last call's result may hold. -/
def Made4 (V : Valuation τ sig (Elt F)) (d : Dev nD) (f : S16384x1.Idx → Elt F .f32) : Prop := (rdOf cfg4 d V 2 (after4 V)).ArrAt 8 cfg4.N f

/-- An array known by a predicate that names it. -/
theorem known {ℓ : Loc nD τ sig} {P : Buf (Elt F) ℓ → Prop} {v : Buf (Elt F) ℓ} (h : ∀ f, P f → f = v) :
    (iprop(∃ f, ⌜P f⌝ ∗ (ℓ ↦{fullShare} f)) : sProp 𝕄) ⊢ (ℓ ↦{fullShare} v) := by
  iintro ⟨%f, %hf, H⟩
  obtain rfl := h f hf
  iexact H

/-- An input array is as it was. -/
theorem input_eq (cfg : Pipeline.Cfg sig Λ₀) (c : Dev nD) (V : Valuation τ sig (Elt F)) (n : ℕ) (after) (w : Fin cfg.W) (hw : (cfg.win w).isOut = false) (f)
    (h : (rdOf cfg c V n after).ArrAt w cfg.N f) : f = V (Proc.devRef .tc (cfg.win w).arr.view.ref) :=
  (congrFun ((rdOf cfg c V n after).ArrAt_in w hw cfg.N) f).mp h

/-- What calls pallas_call `p`. -/
abbrev callOf (p : Fin 3) : Prog (TpuEff nD τ sig (Elt F) (SparseCore.Sig (ΛP (F := F)) 2) .tc) PUnit :=
  Prog.lift (.customCall (SparseCore.inner (Pipeline.entry p)) ())

/-- Region 0's arrays, one by one. -/
theorem arrs0 (V : Valuation τ sig (Elt F)) (d : Dev nD) :
    (bigSep Finset.univ (fun w : Fin (pin (pcfgs (F := F)) adm 0).W => (((d.tc : Thread nD τ).loc (Pipeline.arrRef (pin (pcfgs (F := F)) adm 0).spec w)) ↦{fullShare} (rdat V 0 0 d).A w)) : sProp 𝕄)
      = bigSep Finset.univ fun w : Fin 2 => (((d.tc : Thread nD τ).loc (Pipeline.arrRef spec0 w)) ↦{fullShare} (rdOf (F := F) cfg0 d V 0 (after0 V)).A w) := rfl
theorem outs0 (V : Valuation τ sig (Elt F)) (d : Dev nD) :
    (bigSep Finset.univ (fun w : Fin (pin (pcfgs (F := F)) adm 0).W => iprop(∃ f, ⌜(rdat V 0 0 d).ArrAt w (pin (pcfgs (F := F)) adm 0).N f⌝
        ∗ (((d.tc : Thread nD τ).loc (Pipeline.arrRef (pin (pcfgs (F := F)) adm 0).spec w)) ↦{fullShare} f))) : sProp 𝕄)
      = bigSep Finset.univ fun w : Fin 2 => iprop(∃ f, ⌜(rdOf (F := F) cfg0 d V 0 (after0 V)).ArrAt w cfg0.N f⌝ ∗ (((cfg0.win w).arr.view.loc (d.tc : Thread nD τ)) ↦{fullShare} f)) := rfl

/-- Region 1's arrays, one by one. -/
theorem arrs2 (V : Valuation τ sig (Elt F)) (d : Dev nD) :
    (bigSep Finset.univ (fun w : Fin (pin (pcfgs (F := F)) adm 1).W => (((d.tc : Thread nD τ).loc (Pipeline.arrRef (pin (pcfgs (F := F)) adm 1).spec w)) ↦{fullShare} (rdat V 1 1 d).A w)) : sProp 𝕄)
      = bigSep Finset.univ fun w : Fin 2 => (((d.tc : Thread nD τ).loc (Pipeline.arrRef spec2 w)) ↦{fullShare} (rdOf (F := F) cfg2 d V 1 (after2 V)).A w) := rfl
theorem outs2 (V : Valuation τ sig (Elt F)) (d : Dev nD) :
    (bigSep Finset.univ (fun w : Fin (pin (pcfgs (F := F)) adm 1).W => iprop(∃ f, ⌜(rdat V 1 1 d).ArrAt w (pin (pcfgs (F := F)) adm 1).N f⌝
        ∗ (((d.tc : Thread nD τ).loc (Pipeline.arrRef (pin (pcfgs (F := F)) adm 1).spec w)) ↦{fullShare} f))) : sProp 𝕄)
      = bigSep Finset.univ fun w : Fin 2 => iprop(∃ f, ⌜(rdOf (F := F) cfg2 d V 1 (after2 V)).ArrAt w cfg2.N f⌝ ∗ (((cfg2.win w).arr.view.loc (d.tc : Thread nD τ)) ↦{fullShare} f)) := rfl

/-- Region 2's arrays, one by one. -/
theorem arrs4 (V : Valuation τ sig (Elt F)) (d : Dev nD) :
    (bigSep Finset.univ (fun w : Fin (pin (pcfgs (F := F)) adm 2).W => (((d.tc : Thread nD τ).loc (Pipeline.arrRef (pin (pcfgs (F := F)) adm 2).spec w)) ↦{fullShare} (rdat V 2 2 d).A w)) : sProp 𝕄)
      = bigSep Finset.univ fun w : Fin 9 => (((d.tc : Thread nD τ).loc (Pipeline.arrRef spec4 w)) ↦{fullShare} (rdOf (F := F) cfg4 d V 2 (after4 V)).A w) := rfl
theorem outs4 (V : Valuation τ sig (Elt F)) (d : Dev nD) :
    (bigSep Finset.univ (fun w : Fin (pin (pcfgs (F := F)) adm 2).W => iprop(∃ f, ⌜(rdat V 2 2 d).ArrAt w (pin (pcfgs (F := F)) adm 2).N f⌝
        ∗ (((d.tc : Thread nD τ).loc (Pipeline.arrRef (pin (pcfgs (F := F)) adm 2).spec w)) ↦{fullShare} f))) : sProp 𝕄)
      = bigSep Finset.univ fun w : Fin 9 => iprop(∃ f, ⌜(rdOf (F := F) cfg4 d V 2 (after4 V)).ArrAt w cfg4.N f⌝ ∗ (((cfg4.win w).arr.view.loc (d.tc : Thread nD τ)) ↦{fullShare} f)) := rfl

/-! ## The input arrays by name -/

theorem in0_0 (V : Valuation τ sig (Elt F)) (d : Dev nD) (f) (h : (rdOf (F := F) cfg0 d V 0 (after0 V)).ArrAt (0 : Fin 2) cfg0.N f) : f = V (Proc.devRef .tc main_v10) :=
  input_eq cfg0 d V 0 (after0 V) (0 : Fin 2) rfl f h
theorem in2_0 (V : Valuation τ sig (Elt F)) (d : Dev nD) (f) (h : (rdOf (F := F) cfg2 d V 1 (after2 V)).ArrAt (0 : Fin 2) cfg2.N f) : f = V (Proc.devRef .tc main_v13) :=
  input_eq cfg2 d V 1 (after2 V) (0 : Fin 2) rfl f h
theorem in4_0 (V : Valuation τ sig (Elt F)) (d : Dev nD) (f) (h : (rdOf (F := F) cfg4 d V 2 (after4 V)).ArrAt (0 : Fin 9) cfg4.N f) : f = V (Proc.devRef .tc main_v12) :=
  input_eq cfg4 d V 2 (after4 V) (0 : Fin 9) rfl f h
theorem in4_1 (V : Valuation τ sig (Elt F)) (d : Dev nD) (f) (h : (rdOf (F := F) cfg4 d V 2 (after4 V)).ArrAt (1 : Fin 9) cfg4.N f) : f = V (Proc.devRef .tc main_v15) :=
  input_eq cfg4 d V 2 (after4 V) (1 : Fin 9) rfl f h
theorem in4_2 (V : Valuation τ sig (Elt F)) (d : Dev nD) (f) (h : (rdOf (F := F) cfg4 d V 2 (after4 V)).ArrAt (2 : Fin 9) cfg4.N f) : f = V (Proc.devRef .tc main_v18) :=
  input_eq cfg4 d V 2 (after4 V) (2 : Fin 9) rfl f h
theorem in4_3 (V : Valuation τ sig (Elt F)) (d : Dev nD) (f) (h : (rdOf (F := F) cfg4 d V 2 (after4 V)).ArrAt (3 : Fin 9) cfg4.N f) : f = V (Proc.devRef .tc main_v21) :=
  input_eq cfg4 d V 2 (after4 V) (3 : Fin 9) rfl f h
theorem in4_4 (V : Valuation τ sig (Elt F)) (d : Dev nD) (f) (h : (rdOf (F := F) cfg4 d V 2 (after4 V)).ArrAt (4 : Fin 9) cfg4.N f) : f = V (Proc.devRef .tc main_v22) :=
  input_eq cfg4 d V 2 (after4 V) (4 : Fin 9) rfl f h
theorem in4_5 (V : Valuation τ sig (Elt F)) (d : Dev nD) (f) (h : (rdOf (F := F) cfg4 d V 2 (after4 V)).ArrAt (5 : Fin 9) cfg4.N f) : f = V (Proc.devRef .tc main_v23) :=
  input_eq cfg4 d V 2 (after4 V) (5 : Fin 9) rfl f h
theorem in4_6 (V : Valuation τ sig (Elt F)) (d : Dev nD) (f) (h : (rdOf (F := F) cfg4 d V 2 (after4 V)).ArrAt (6 : Fin 9) cfg4.N f) : f = V (Proc.devRef .tc main_v24) :=
  input_eq cfg4 d V 2 (after4 V) (6 : Fin 9) rfl f h
theorem in4_7 (V : Valuation τ sig (Elt F)) (d : Dev nD) (f) (h : (rdOf (F := F) cfg4 d V 2 (after4 V)).ArrAt (7 : Fin 9) cfg4.N f) : f = V (Proc.devRef .tc main_v25) :=
  input_eq cfg4 d V 2 (after4 V) (7 : Fin 9) rfl f h

theorem keep0_0 (V : Valuation τ sig (Elt F)) (d : Dev nD) :
    (iprop(∃ f, ⌜(rdOf (F := F) cfg0 d V 0 (after0 V)).ArrAt (0 : Fin 2) cfg0.N f⌝ ∗ (((cfg0.win (0 : Fin 2)).arr.view.loc (d.tc : Thread nD τ)) ↦{fullShare} f)) : sProp 𝕄)
      ⊢ tcBuf d main_v10 (V (Proc.devRef .tc main_v10)) :=
  known (in0_0 V d)
theorem keep2_0 (V : Valuation τ sig (Elt F)) (d : Dev nD) :
    (iprop(∃ f, ⌜(rdOf (F := F) cfg2 d V 1 (after2 V)).ArrAt (0 : Fin 2) cfg2.N f⌝ ∗ (((cfg2.win (0 : Fin 2)).arr.view.loc (d.tc : Thread nD τ)) ↦{fullShare} f)) : sProp 𝕄)
      ⊢ tcBuf d main_v13 (V (Proc.devRef .tc main_v13)) :=
  known (in2_0 V d)
theorem keep4_0 (V : Valuation τ sig (Elt F)) (d : Dev nD) :
    (iprop(∃ f, ⌜(rdOf (F := F) cfg4 d V 2 (after4 V)).ArrAt (0 : Fin 9) cfg4.N f⌝ ∗ (((cfg4.win (0 : Fin 9)).arr.view.loc (d.tc : Thread nD τ)) ↦{fullShare} f)) : sProp 𝕄)
      ⊢ tcBuf d main_v12 (V (Proc.devRef .tc main_v12)) :=
  known (in4_0 V d)
theorem keep4_1 (V : Valuation τ sig (Elt F)) (d : Dev nD) :
    (iprop(∃ f, ⌜(rdOf (F := F) cfg4 d V 2 (after4 V)).ArrAt (1 : Fin 9) cfg4.N f⌝ ∗ (((cfg4.win (1 : Fin 9)).arr.view.loc (d.tc : Thread nD τ)) ↦{fullShare} f)) : sProp 𝕄)
      ⊢ tcBuf d main_v15 (V (Proc.devRef .tc main_v15)) :=
  known (in4_1 V d)
theorem keep4_2 (V : Valuation τ sig (Elt F)) (d : Dev nD) :
    (iprop(∃ f, ⌜(rdOf (F := F) cfg4 d V 2 (after4 V)).ArrAt (2 : Fin 9) cfg4.N f⌝ ∗ (((cfg4.win (2 : Fin 9)).arr.view.loc (d.tc : Thread nD τ)) ↦{fullShare} f)) : sProp 𝕄)
      ⊢ tcBuf d main_v18 (V (Proc.devRef .tc main_v18)) :=
  known (in4_2 V d)
theorem keep4_3 (V : Valuation τ sig (Elt F)) (d : Dev nD) :
    (iprop(∃ f, ⌜(rdOf (F := F) cfg4 d V 2 (after4 V)).ArrAt (3 : Fin 9) cfg4.N f⌝ ∗ (((cfg4.win (3 : Fin 9)).arr.view.loc (d.tc : Thread nD τ)) ↦{fullShare} f)) : sProp 𝕄)
      ⊢ tcBuf d main_v21 (V (Proc.devRef .tc main_v21)) :=
  known (in4_3 V d)
theorem keep4_4 (V : Valuation τ sig (Elt F)) (d : Dev nD) :
    (iprop(∃ f, ⌜(rdOf (F := F) cfg4 d V 2 (after4 V)).ArrAt (4 : Fin 9) cfg4.N f⌝ ∗ (((cfg4.win (4 : Fin 9)).arr.view.loc (d.tc : Thread nD τ)) ↦{fullShare} f)) : sProp 𝕄)
      ⊢ tcBuf d main_v22 (V (Proc.devRef .tc main_v22)) :=
  known (in4_4 V d)
theorem keep4_5 (V : Valuation τ sig (Elt F)) (d : Dev nD) :
    (iprop(∃ f, ⌜(rdOf (F := F) cfg4 d V 2 (after4 V)).ArrAt (5 : Fin 9) cfg4.N f⌝ ∗ (((cfg4.win (5 : Fin 9)).arr.view.loc (d.tc : Thread nD τ)) ↦{fullShare} f)) : sProp 𝕄)
      ⊢ tcBuf d main_v23 (V (Proc.devRef .tc main_v23)) :=
  known (in4_5 V d)
theorem keep4_6 (V : Valuation τ sig (Elt F)) (d : Dev nD) :
    (iprop(∃ f, ⌜(rdOf (F := F) cfg4 d V 2 (after4 V)).ArrAt (6 : Fin 9) cfg4.N f⌝ ∗ (((cfg4.win (6 : Fin 9)).arr.view.loc (d.tc : Thread nD τ)) ↦{fullShare} f)) : sProp 𝕄)
      ⊢ tcBuf d main_v24 (V (Proc.devRef .tc main_v24)) :=
  known (in4_6 V d)
theorem keep4_7 (V : Valuation τ sig (Elt F)) (d : Dev nD) :
    (iprop(∃ f, ⌜(rdOf (F := F) cfg4 d V 2 (after4 V)).ArrAt (7 : Fin 9) cfg4.N f⌝ ∗ (((cfg4.win (7 : Fin 9)).arr.view.loc (d.tc : Thread nD τ)) ↦{fullShare} f)) : sProp 𝕄)
      ⊢ tcBuf d main_v25 (V (Proc.devRef .tc main_v25)) :=
  known (in4_7 V d)

/-! ## The result arrays by name -/

theorem out0 (V : Valuation τ sig (Elt F)) (d : Dev nD) :
    (iprop(∃ f, ⌜(rdOf (F := F) cfg0 d V 0 (after0 V)).ArrAt (1 : Fin 2) cfg0.N f⌝ ∗ (((cfg0.win (1 : Fin 2)).arr.view.loc (d.tc : Thread nD τ)) ↦{fullShare} f)) : sProp 𝕄)
      ⊢ iprop(∃ f, ⌜Made0 V d f⌝ ∗ tcBuf d main_v11 f) := by
  iintro ⟨%f, %hf, H⟩
  iexists f
  isplitr
  · ipureintro; exact hf
  · iexact H

theorem out2 (V : Valuation τ sig (Elt F)) (d : Dev nD) :
    (iprop(∃ f, ⌜(rdOf (F := F) cfg2 d V 1 (after2 V)).ArrAt (1 : Fin 2) cfg2.N f⌝ ∗ (((cfg2.win (1 : Fin 2)).arr.view.loc (d.tc : Thread nD τ)) ↦{fullShare} f)) : sProp 𝕄)
      ⊢ iprop(∃ f, ⌜Made2 V d f⌝ ∗ tcBuf d main_v14 f) := by
  iintro ⟨%f, %hf, H⟩
  iexists f
  isplitr
  · ipureintro; exact hf
  · iexact H

theorem out4 (V : Valuation τ sig (Elt F)) (d : Dev nD) :
    (iprop(∃ f, ⌜(rdOf (F := F) cfg4 d V 2 (after4 V)).ArrAt (8 : Fin 9) cfg4.N f⌝ ∗ (((cfg4.win (8 : Fin 9)).arr.view.loc (d.tc : Thread nD τ)) ↦{fullShare} f)) : sProp 𝕄)
      ⊢ iprop(∃ f, ⌜Made4 V d f⌝ ∗ tcBuf d main_v26 f) := by
  iintro ⟨%f, %hf, H⟩
  iexists f
  isplitr
  · ipureintro; exact hf
  · iexact H

/-- The users' packing. -/
theorem step0 (V : Valuation τ sig (Elt F)) (d : Dev nD) :
    (iprop(boundary (SparseCore.T d : Thread nD τ) ∗ levAts (K (F := F)).L (K (F := F)).lev ∗ (K (F := F)).tcSt EH d 0
        ∗ (tcBuf d main_v10 (V (Proc.devRef .tc main_v10)) ∗ tcBuf d main_v11 (V (Proc.devRef .tc main_v11))) ∗ regGhost 0 d) : sProp 𝕄)
      ⊢ wp frame (wpE ((K (F := F)).defs D) 𝒱 (SparseCore.T d) none) Set.univ (callOf 0) fun _ =>
          iprop(boundary (SparseCore.T d : Thread nD τ) ∗ (K (F := F)).tcSt EH d 0
            ∗ tcBuf d main_v10 (V (Proc.devRef .tc main_v10)) ∗ ∃ f, ⌜Made0 V d f⌝ ∗ tcBuf d main_v11 f) := by
  have h := region_step V 0 0 (seg0 V 0) rfl rfl arr_whole0 d
  rw [arrs0, outs0, bigSep_W0, bigSep_W0] at h
  refine BI.Entails.trans ?_ (h.trans (wp_mono _ _ _ fun _ => ?_))
  · exact BI.sep_mono (BI.Entails.refl _) (BI.sep_mono (BI.Entails.refl _) (BI.sep_mono (BI.Entails.refl _) (BI.Entails.refl _)))
  · exact BI.sep_mono (BI.Entails.refl _) (BI.sep_mono (BI.Entails.refl _) ((BI.sep_mono (keep0_0 V d) (out0 V d))))

/-- The items' packing. -/
theorem step2 (V : Valuation τ sig (Elt F)) (d : Dev nD) :
    (iprop(boundary (SparseCore.T d : Thread nD τ) ∗ levAts (K (F := F)).L (K (F := F)).lev ∗ (K (F := F)).tcSt EH d 1
        ∗ (tcBuf d main_v13 (V (Proc.devRef .tc main_v13)) ∗ tcBuf d main_v14 (V (Proc.devRef .tc main_v14))) ∗ regGhost 1 d) : sProp 𝕄)
      ⊢ wp frame (wpE ((K (F := F)).defs D) 𝒱 (SparseCore.T d) none) Set.univ (callOf 1) fun _ =>
          iprop(boundary (SparseCore.T d : Thread nD τ) ∗ (K (F := F)).tcSt EH d 1
            ∗ tcBuf d main_v13 (V (Proc.devRef .tc main_v13)) ∗ ∃ f, ⌜Made2 V d f⌝ ∗ tcBuf d main_v14 f) := by
  have h := region_step V 1 1 (seg2 V 1) rfl rfl arr_whole2 d
  rw [arrs2, outs2, bigSep_W2, bigSep_W2] at h
  refine BI.Entails.trans ?_ (h.trans (wp_mono _ _ _ fun _ => ?_))
  · exact BI.sep_mono (BI.Entails.refl _) (BI.sep_mono (BI.Entails.refl _) (BI.sep_mono (BI.Entails.refl _) (BI.Entails.refl _)))
  · exact BI.sep_mono (BI.Entails.refl _) (BI.sep_mono (BI.Entails.refl _) ((BI.sep_mono (keep2_0 V d) (out2 V d))))

/-- What the dense call takes. -/
def denseIn (V : Valuation τ sig (Elt F)) (d : Dev nD) : sProp 𝕄 :=
  iprop(tcBuf d main_v12 (V (Proc.devRef .tc main_v12)) ∗ tcBuf d main_v15 (V (Proc.devRef .tc main_v15)) ∗ tcBuf d main_v18 (V (Proc.devRef .tc main_v18))
    ∗ tcBuf d main_v21 (V (Proc.devRef .tc main_v21)) ∗ tcBuf d main_v22 (V (Proc.devRef .tc main_v22)) ∗ tcBuf d main_v23 (V (Proc.devRef .tc main_v23))
    ∗ tcBuf d main_v24 (V (Proc.devRef .tc main_v24)) ∗ tcBuf d main_v25 (V (Proc.devRef .tc main_v25)) ∗ tcBuf d main_v26 (V (Proc.devRef .tc main_v26)))

/-- What the dense call leaves. -/
def left4 (V : Valuation τ sig (Elt F)) (d : Dev nD) (w : Fin 9) : sProp 𝕄 :=
  iprop(∃ f, ⌜(rdOf (F := F) cfg4 d V 2 (after4 V)).ArrAt w cfg4.N f⌝ ∗ (((cfg4.win w).arr.view.loc (d.tc : Thread nD τ)) ↦{fullShare} f))

theorem dense_out (V : Valuation τ sig (Elt F)) (d : Dev nD) :
    (bigSep Finset.univ (left4 V d)) ⊢ (iprop(∃ f, ⌜Made4 V d f⌝ ∗ denseIn (Function.update V (Proc.devRef .tc main_v26) f) d) : sProp 𝕄) := by
  rw [bigSep_W4]
  unfold left4
  iintro ⟨H0, H1, H2, H3, H4, H5, H6, H7, H8⟩
  ihave H8 := (out4 V d) $$ H8
  icases H8 with ⟨%f, %hf, H8⟩
  iexists f
  isplitr; · ipureintro; exact hf
  unfold denseIn
  rw [Function.update_self, Function.update_of_ne (by decide), Function.update_of_ne (by decide), Function.update_of_ne (by decide), Function.update_of_ne (by decide),
    Function.update_of_ne (by decide), Function.update_of_ne (by decide), Function.update_of_ne (by decide), Function.update_of_ne (by decide)]
  isplitl [H0]; · iapply (keep4_0 V d); iexact H0
  isplitl [H1]; · iapply (keep4_1 V d); iexact H1
  isplitl [H2]; · iapply (keep4_2 V d); iexact H2
  isplitl [H3]; · iapply (keep4_3 V d); iexact H3
  isplitl [H4]; · iapply (keep4_4 V d); iexact H4
  isplitl [H5]; · iapply (keep4_5 V d); iexact H5
  isplitl [H6]; · iapply (keep4_6 V d); iexact H6
  isplitl [H7]; · iapply (keep4_7 V d); iexact H7
  iexact H8

/-- The dense call. -/
theorem step4 (V : Valuation τ sig (Elt F)) (d : Dev nD) :
    (iprop(boundary (SparseCore.T d : Thread nD τ) ∗ levAts (K (F := F)).L (K (F := F)).lev ∗ (K (F := F)).tcSt EH d 2
        ∗ denseIn V d ∗ regGhost 2 d) : sProp 𝕄)
      ⊢ wp frame (wpE ((K (F := F)).defs D) 𝒱 (SparseCore.T d) none) Set.univ (callOf 2) fun _ =>
          iprop(boundary (SparseCore.T d : Thread nD τ) ∗ (K (F := F)).tcSt EH d 2
            ∗ ∃ f, ⌜Made4 V d f⌝ ∗ denseIn (Function.update V (Proc.devRef .tc main_v26) f) d) := by
  have h := region_step V 2 2 (seg4 V 2) rfl rfl arr_whole4 d
  have e : denseIn V d = bigSep Finset.univ fun w : Fin 9 => (((d.tc : Thread nD τ).loc (Pipeline.arrRef spec4 w)) ↦{fullShare} (rdOf (F := F) cfg4 d V 2 (after4 V)).A w) := by
    rw [bigSep_W4]; rfl
  rw [e, ← arrs4]
  refine h.trans (wp_mono _ _ _ fun _ => ?_)
  exact BI.sep_mono (BI.Entails.refl _) (BI.sep_mono (BI.Entails.refl _) ((entails_of_eq (outs4 V d)).trans (dense_out V d)))

end Cert.Proof.Run

end
-- ==== Proof.Split.lean ====
/-
  A SparseCore call's arrays, dealt to its 32 tasks and gathered back.
-/
module

public import proofs.«01_k».proof.Proof.Steps3

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

theorem parts_disjoint : ∀ w ∈ (Finset.univ : Finset (Fin 32)), ∀ w' ∈ (Finset.univ : Finset (Fin 32)), w ≠ w' → Disjoint (oSet w) (oSet w') :=
  fun _ _ _ _ h => Rect.part_disjoint odiv h
theorem parts_cover : (Finset.univ : Finset (Fin 32)).biUnion oSet = Finset.univ := Rect.biUnion_part odiv

/-- The tasks are numbered one to one. -/
def tasksEquiv : Fin 2 × Fin 16 ≃ Fin 32 :=
  Equiv.ofBijective (fun p => wid p.1.val p.2.val) (by unfold Function.Bijective Function.Injective Function.Surjective; decide)

theorem bigSep_wid (Φ : Fin 32 → sProp 𝕄) :
    (bigSep Finset.univ Φ : sProp 𝕄) = bigSep Finset.univ fun c : Fin 2 => bigSep Finset.univ fun i : Fin 16 => Φ (wid c.val i.val) := by
  rw [bigSep_univ_equiv tasksEquiv, bigSep_univ_prod]; rfl

theorem share_known {ℓ : Loc nD τ sig} (Q : Buf (Elt F) ℓ → Prop) (tbl : Buf (Elt F) ℓ) (hQ : Q tbl) (R : Finset (Idx ℓ)) (q : PosShare TreeShare) :
    (ℓ ↦[R]{q} tbl : sProp 𝕄) ⊢ iprop(∃ tbl : Buf (Elt F) ℓ, ⌜Q tbl⌝ ∗ (ℓ ↦[R]{q} tbl)) := by
  iintro H; iexists tbl; isplitr
  · ipureintro; exact hQ
  · iexact H
theorem some_contents {ℓ : Loc nD τ sig} (f : Buf (Elt F) ℓ) (R : Finset (Idx ℓ)) (q : PosShare TreeShare) :
    (ℓ ↦[R]{q} f : sProp 𝕄) ⊢ iprop(∃ f : Buf (Elt F) ℓ, ℓ ↦[R]{q} f) := by
  iintro H; iexists f; iexact H

/-- What all tasks read, in 32 shares; what they write, in its parts. -/
theorem deal {ℓ₁ ℓ₂ ℓ₃ : Loc nD τ sig} (Q : Buf (Elt F) ℓ₂ → Prop) (R : Fin 32 → Finset (Idx ℓ₃))
    (hd : ∀ w ∈ (Finset.univ : Finset (Fin 32)), ∀ w' ∈ (Finset.univ : Finset (Fin 32)), w ≠ w' → Disjoint (R w) (R w'))
    (hc : (Finset.univ : Finset (Fin 32)).biUnion R = Finset.univ) (I : Buf (Elt F) ℓ₁) (tbl : Buf (Elt F) ℓ₂) (hQ : Q tbl) (f : Buf (Elt F) ℓ₃) :
    (iprop((ℓ₁ ↦{fullShare} I) ∗ (ℓ₂ ↦{fullShare} tbl) ∗ (ℓ₃ ↦{fullShare} f)) : sProp 𝕄)
      ⊢ bigSep Finset.univ fun w : Fin 32 => iprop((ℓ₁ ↦{shr w} I) ∗ (∃ tbl : Buf (Elt F) ℓ₂, ⌜Q tbl⌝ ∗ (ℓ₂ ↦{shr w} tbl)) ∗ ∃ f : Buf (Elt F) ℓ₃, ℓ₃ ↦[R w]{fullShare} f) := by
  rw [bigSep_sep', bigSep_sep']
  have h₂ : (ℓ₂ ↦{fullShare} tbl : sProp 𝕄) ⊢ bigSep Finset.univ fun w : Fin 32 => iprop(∃ tbl : Buf (Elt F) ℓ₂, ⌜Q tbl⌝ ∗ (ℓ₂ ↦{shr w} tbl)) := by
    rw [pointsTo_piecesOf Finset.univ tbl (show 0 < 32 by decide) fullShare]
    exact bigSep_mono fun w _ => share_known Q tbl hQ _ _
  have h₃ : (ℓ₃ ↦{fullShare} f : sProp 𝕄) ⊢ bigSep Finset.univ fun w : Fin 32 => iprop(∃ f : Buf (Elt F) ℓ₃, ℓ₃ ↦[R w]{fullShare} f) := by
    rw [show (ℓ₃ ↦{fullShare} f : sProp 𝕄) = bigSep Finset.univ fun w : Fin 32 => ℓ₃ ↦[R w]{fullShare} f by
      rw [← pointsTo_biUnion Finset.univ (ℓ := ℓ₃) R hd, hc]]
    exact bigSep_mono fun w _ => some_contents f _ _
  exact BI.sep_mono (entails_of_eq (pointsTo_piecesOf Finset.univ I (show 0 < 32 by decide) fullShare)) (BI.sep_mono h₂ h₃)

/-- The parts, each with what is known of it, are the array. -/
theorem collect {ℓ : Loc nD τ sig} (Q : Fin 32 → Buf (Elt F) ℓ → Prop) (R : Fin 32 → Finset (Idx ℓ))
    (hd : ∀ w ∈ (Finset.univ : Finset (Fin 32)), ∀ w' ∈ (Finset.univ : Finset (Fin 32)), w ≠ w' → Disjoint (R w) (R w'))
    (hc : (Finset.univ : Finset (Fin 32)).biUnion R = Finset.univ)
    (hQ : ∀ w f g, (∀ i ∈ R w, g i = f i) → Q w f → Q w g) [Nonempty (Buf (Elt F) ℓ)] :
    (bigSep Finset.univ fun w : Fin 32 => iprop(∃ f : Buf (Elt F) ℓ, ⌜Q w f⌝ ∗ (ℓ ↦[R w]{fullShare} f)) : sProp 𝕄)
      ⊢ iprop(∃ f : Buf (Elt F) ℓ, ⌜∀ w, Q w f⌝ ∗ (ℓ ↦{fullShare} f)) := by
  refine (bigSep_exists_pi Finset.univ (fun w (f : Buf (Elt F) ℓ) => iprop(⌜Q w f⌝ ∗ (ℓ ↦[R w]{fullShare} f)))).trans ?_
  iintro ⟨%fs, H⟩
  ihave H := (bigSep_pure_sep Finset.univ (fun w => Q w (fs w)) (fun w => ℓ ↦[R w]{fullShare} fs w)) $$ H
  icases H with ⟨%hq, H⟩
  ihave H := (pointsTo_biUnion_join (ℓ := ℓ) (q := fullShare) (Val := Elt F) Finset.univ R fs (fs 0) hd) $$ H
  icases H with ⟨%g, %hg, H⟩
  rw [hc]
  iexists g
  isplitr
  · ipureintro; exact fun w => hQ w (fs w) g (hg w (Finset.mem_univ _)) (hq w (Finset.mem_univ _))
  · iexact H

theorem gathered_congr (Pk : (S253952x128.Idx → Elt F .f32) → Prop) (I : S16384.Idx → BitVec 32) (w : Fin 32) (f g : S16384x128.Idx → Elt F .f32)
    (h : ∀ i ∈ oSet w, g i = f i) : Gathered Pk I (oSet w) f → Gathered Pk I (oSet w) g :=
  fun ⟨tbl, hp, hf⟩ => ⟨tbl, hp, fun r j hr hi => (h _ hr).trans (hf r j hr hi)⟩

variable (Pk : Fin 2 → Dev nD → (S253952x128.Idx → Elt F .f32) → Prop) (I : Fin 2 → Dev nD → S16384.Idx → BitVec 32) (d : Dev nD)

/-- The users' call from its arrays. -/
theorem deal_users (tbl : S253952x128.Idx → Elt F .f32) (h : Pk 0 d tbl) (f : S16384x128.Idx → Elt F .f32) :
    (iprop(tcBuf d main_v4 (I 0 d) ∗ tcBuf d main_v11 tbl ∗ tcBuf d main_v12 f) : sProp 𝕄)
      ⊢ bigSep Finset.univ fun c : Fin ((K (F := F)).nCore 0) => (P Pk I).st 0 d c := by
  refine (deal (ℓ₁ := v4L d) (ℓ₂ := v11L d) (ℓ₃ := v12L d) (Pk 0 d) oSet parts_disjoint parts_cover (I 0 d) tbl h f).trans ?_
  exact entails_of_eq (bigSep_wid (fun w => go0 (Pk 0 d) (I 0 d) d w))

/-- The items' call from its arrays. -/
theorem deal_items (tbl : S253952x128.Idx → Elt F .f32) (h : Pk 1 d tbl) (f : S16384x128.Idx → Elt F .f32) :
    (iprop(tcBuf d main_v9 (I 1 d) ∗ tcBuf d main_v14 tbl ∗ tcBuf d main_v15 f) : sProp 𝕄)
      ⊢ bigSep Finset.univ fun c : Fin ((K (F := F)).nCore 1) => (P Pk I).st 1 d c := by
  refine (deal (ℓ₁ := v9L d) (ℓ₂ := v14L d) (ℓ₃ := v15L d) (Pk 1 d) oSet parts_disjoint parts_cover (I 1 d) tbl h f).trans ?_
  exact entails_of_eq (bigSep_wid (fun w => go1 (Pk 1 d) (I 1 d) d w))

/-- What the users' call brings back. -/
theorem collect_users [∀ e, Nonempty (Elt F e)] : (bigSep Finset.univ fun c : Fin ((K (F := F)).nCore 0) => (P Pk I).dn 0 d c)
    ⊢ (iprop(∃ f, ⌜∀ w, Gathered (Pk 0 d) (I 0 d) (oSet w) f⌝ ∗ tcBuf d main_v12 f) : sProp 𝕄) := by
  have : Nonempty (Buf (Elt F) (v12L d)) := ⟨fun _ => Classical.choice (inferInstanceAs (Nonempty (Elt F .f32)))⟩
  refine BI.Entails.trans ?_ (collect (ℓ := v12L d) (fun w f => Gathered (Pk 0 d) (I 0 d) (oSet w) f) oSet parts_disjoint parts_cover
    (fun w f g => gathered_congr (Pk 0 d) (I 0 d) w f g))
  exact entails_of_eq (bigSep_wid (fun w => td0 (Pk 0 d) (I 0 d) d w)).symm

/-- What the items' call brings back. -/
theorem collect_items [∀ e, Nonempty (Elt F e)] : (bigSep Finset.univ fun c : Fin ((K (F := F)).nCore 1) => (P Pk I).dn 1 d c)
    ⊢ (iprop(∃ f, ⌜∀ w, Gathered (Pk 1 d) (I 1 d) (oSet w) f⌝ ∗ tcBuf d main_v15 f) : sProp 𝕄) := by
  have : Nonempty (Buf (Elt F) (v15L d)) := ⟨fun _ => Classical.choice (inferInstanceAs (Nonempty (Elt F .f32)))⟩
  refine BI.Entails.trans ?_ (collect (ℓ := v15L d) (fun w f => Gathered (Pk 1 d) (I 1 d) (oSet w) f) oSet parts_disjoint parts_cover
    (fun w f g => gathered_congr (Pk 1 d) (I 1 d) w f g))
  exact entails_of_eq (bigSep_wid (fun w => td1 (Pk 1 d) (I 1 d) d w)).symm

end Cert.Proof.Run

end
-- ==== Proof.Hold.lean ====
/-
  The host's buffers held together: one taken out, one put back; which ones each stretch of host operations uses.
-/
module

public import proofs.«01_k».proof.Proof.Split
public import proofs.«01_k».proof.Proof.Host

@[expose] public section

noncomputable section

namespace Cert.Proof.Run

open Cert.KernelIdeal Cert.KernelIdeal.Gen
open Idealize.ShloMosaic
open Idealize.ShloMosaic.StableHlo (held held_congr after tcRefs)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-- A buffer of the TensorCore among all buffers. -/
abbrev dr (b : Ref sig .tc) : DevRef τ sig := Proc.devRef .tc b

section
variable (d : Dev nD) {S : Finset (DevRef τ sig)} {b : Ref sig .tc}

/-- One buffer, out. -/
theorem held_out (h : dr b ∈ S) (V : Valuation τ sig (Elt F)) :
    (held (SparseCore.T d : Thread nD τ) S V : sProp 𝕄) = iprop(tcBuf d b (V (dr b)) ∗ held (SparseCore.T d : Thread nD τ) (S.erase (dr b)) V) := by
  classical
  exact BI.bigSep_erase h

/-- One buffer, back in at what it now holds. -/
theorem held_in (h : dr b ∈ S) (V : Valuation τ sig (Elt F)) (f : b.ty.Contents (Elt F)) :
    (iprop(tcBuf d b f ∗ held (SparseCore.T d : Thread nD τ) (S.erase (dr b)) V) : sProp 𝕄)
      = held (SparseCore.T d : Thread nD τ) S (Function.update V (dr b) f) := by
  classical
  rw [held_out d h (Function.update V (dr b) f), Function.update_self]
  congr 1
  exact held_congr _ fun c hc => (Function.update_of_ne (Finset.ne_of_mem_erase hc) _ _).symm

end

/-- All buffers of @main. -/
abbrev S0 : Finset (DevRef τ sig) := Pipeline.ucRefs τ sig
/-- Those left once the users' call has its list and its table. -/
abbrev S1 : Finset (DevRef τ sig) := (S0.erase (dr main_v4)).erase (dr main_v11)
/-- Those left once the items' call has its list and its table. -/
abbrev S2 : Finset (DevRef τ sig) := (S1.erase (dr main_v9)).erase (dr main_v14)

theorem mem_S0 (b : Ref sig .tc) (h : (dr b).isScoped = false) : dr b ∈ S0 :=
  Finset.mem_filter.mpr ⟨StableHlo.devRef_mem_tcRefs b, by rw [h]; decide⟩
theorem mem_S1 (b : Ref sig .tc) (h : (dr b).isScoped = false) (h₁ : b ≠ main_v4) (h₂ : b ≠ main_v11) : dr b ∈ S1 :=
  Finset.mem_erase.mpr ⟨fun e => h₂ (Proc.devRef_injective _ e), Finset.mem_erase.mpr ⟨fun e => h₁ (Proc.devRef_injective _ e), mem_S0 b h⟩⟩
theorem mem_S2 (b : Ref sig .tc) (h : (dr b).isScoped = false) (h₁ : b ≠ main_v4) (h₂ : b ≠ main_v11) (h₃ : b ≠ main_v9) (h₄ : b ≠ main_v14) : dr b ∈ S2 :=
  Finset.mem_erase.mpr ⟨fun e => h₄ (Proc.devRef_injective _ e), Finset.mem_erase.mpr ⟨fun e => h₃ (Proc.devRef_injective _ e), mem_S1 b h h₁ h₂⟩⟩

variable [FloatOps F]
open Cert.Proof.Host

/-- An operation on host buffers outside `R`. -/
structure Ok (R : List (Ref sig .tc)) (op : HloOp τ sig (Elt F)) : Prop where
  sub : op.bufs ⊆ tcRefs τ sig
  out : ∀ r ∈ R, dr r ∉ op.bufs
  fresh : op.fresh = ∅

section
variable {R : List (Ref sig .tc)} {x a b c y : Ref sig .tc}

omit [FloatOps F] in
theorem ok_nullary (hy' : y ∉ R) (v : y.ty.Contents (Elt F)) (hy) : Ok R (StableHlo.nullary (τ := τ) y v hy) :=
  ⟨StableHlo.nullary_bufs_sub .., fun r hr h => by
    rcases Finset.mem_singleton.mp h with e
    exact hy' (Proc.devRef_injective _ e ▸ hr), rfl⟩
omit [FloatOps F] in
theorem ok_unary (hx' : x ∉ R) (hy' : y ∉ R) (f : x.ty.Contents (Elt F) → y.ty.Contents (Elt F)) (hx hy) : Ok R (StableHlo.unary (τ := τ) x y f hx hy) :=
  ⟨StableHlo.unary_bufs_sub .., fun r hr h => by
    rcases Finset.mem_insert.mp h with e | h
    · exact hx' (Proc.devRef_injective _ e ▸ hr)
    rcases Finset.mem_singleton.mp h with e
    exact hy' (Proc.devRef_injective _ e ▸ hr), rfl⟩
omit [FloatOps F] in
theorem ok_reshape (hx' : x ∉ R) (hy' : y ∉ R) (he hn hx hy) : Ok R (StableHlo.reshape (τ := τ) (Val := Elt F) x y he hn hx hy) :=
  ⟨StableHlo.reshape_bufs_sub .., fun r hr h => by
    rcases Finset.mem_insert.mp h with e | h
    · exact hx' (Proc.devRef_injective _ e ▸ hr)
    rcases Finset.mem_singleton.mp h with e
    exact hy' (Proc.devRef_injective _ e ▸ hr), rfl⟩
omit [FloatOps F] in
theorem ok_binary (ha' : a ∉ R) (hb' : b ∉ R) (hy' : y ∉ R) (f : a.ty.Contents (Elt F) → b.ty.Contents (Elt F) → y.ty.Contents (Elt F)) (ha hb hy) :
    Ok R (StableHlo.binary (τ := τ) a b y f ha hb hy) :=
  ⟨StableHlo.binary_bufs_sub .., fun r hr h => by
    rcases Finset.mem_insert.mp h with e | h
    · exact ha' (Proc.devRef_injective _ e ▸ hr)
    rcases Finset.mem_insert.mp h with e | h
    · exact hb' (Proc.devRef_injective _ e ▸ hr)
    rcases Finset.mem_singleton.mp h with e
    exact hy' (Proc.devRef_injective _ e ▸ hr), rfl⟩
omit [FloatOps F] in
theorem ok_ternary (hc' : c ∉ R) (ha' : a ∉ R) (hb' : b ∉ R) (hy' : y ∉ R)
    (f : c.ty.Contents (Elt F) → a.ty.Contents (Elt F) → b.ty.Contents (Elt F) → y.ty.Contents (Elt F)) (hc ha hb hy) :
    Ok R (StableHlo.ternary (τ := τ) c a b y f hc ha hb hy) :=
  ⟨StableHlo.ternary_bufs_sub .., fun r hr h => by
    rcases Finset.mem_insert.mp h with e | h
    · exact hc' (Proc.devRef_injective _ e ▸ hr)
    rcases Finset.mem_insert.mp h with e | h
    · exact ha' (Proc.devRef_injective _ e ▸ hr)
    rcases Finset.mem_insert.mp h with e | h
    · exact hb' (Proc.devRef_injective _ e ▸ hr)
    rcases Finset.mem_singleton.mp h with e
    exact hy' (Proc.devRef_injective _ e ▸ hr), rfl⟩

end

/-- The buffers the two calls keep. -/
abbrev gone : List (Ref sig .tc) := [main_v4, main_v11, main_v9, main_v14]

set_option maxRecDepth 4096

theorem ops0_ok : (ops0 : List (HloOp τ sig (Elt F))).Forall (Ok []) := by
  simp only [ops0, floorDivOps, remOps, List.forall_append, List.Forall]
  and_intros <;> first
    | exact ok_nullary List.not_mem_nil _ _
    | exact ok_unary List.not_mem_nil List.not_mem_nil _ _ _
    | exact ok_binary List.not_mem_nil List.not_mem_nil List.not_mem_nil _ _ _ _
    | exact ok_ternary List.not_mem_nil List.not_mem_nil List.not_mem_nil List.not_mem_nil _ _ _ _ _
theorem ops1_ok : (ops1 : List (HloOp τ sig (Elt F))).Forall (Ok gone) := by
  simp only [ops1, List.Forall]
  exact ok_unary (by decide) (by decide) _ _ _
theorem ops2_ok : (ops2 : List (HloOp τ sig (Elt F))).Forall (Ok gone) := by
  simp only [ops2, floorDivOps1, remOps, List.forall_append, List.Forall]
  and_intros <;> first
    | exact ok_nullary (by decide) _ _
    | exact ok_unary (by decide) (by decide) _ _ _
    | exact ok_reshape (by decide) (by decide) _ _ _ _
    | exact ok_binary (by decide) (by decide) (by decide) _ _ _ _
    | exact ok_ternary (by decide) (by decide) (by decide) (by decide) _ _ _ _ _
theorem ops3_ok : (ops3 : List (HloOp τ sig (Elt F))).Forall (Ok gone) := by
  simp only [ops3, List.Forall]
  exact ok_reshape (by decide) (by decide) _ _ _ _

omit [FloatOps F] in
theorem sub_S0 {ops : List (HloOp τ sig (Elt F))} (h : ops.Forall (Ok [])) : ∀ op ∈ ops, op.bufs ⊆ S0 := fun op hop =>
  Pipeline.sub_ucRefs op ((List.forall_iff_forall_mem.mp h) op hop).sub
omit [FloatOps F] in
theorem sub_S2 {ops : List (HloOp τ sig (Elt F))} (h : ops.Forall (Ok gone)) : ∀ op ∈ ops, op.bufs ⊆ S2 := fun op hop b hb => by
  have h := (List.forall_iff_forall_mem.mp h) op hop
  have hne : ∀ r ∈ gone, b ≠ dr r := fun r hr e => h.out r hr (e ▸ hb)
  exact Finset.mem_erase.mpr ⟨hne _ (by decide), Finset.mem_erase.mpr ⟨hne _ (by decide), Finset.mem_erase.mpr ⟨hne _ (by decide),
    Finset.mem_erase.mpr ⟨hne _ (by decide), Pipeline.sub_ucRefs op h.sub hb⟩⟩⟩⟩
omit [FloatOps F] in
theorem sub_S1 {ops : List (HloOp τ sig (Elt F))} (h : ops.Forall (Ok gone)) : ∀ op ∈ ops, op.bufs ⊆ S1 := fun op hop b hb =>
  Finset.mem_of_mem_erase (Finset.mem_of_mem_erase (sub_S2 h op hop hb))
omit [FloatOps F] in
theorem fresh_of {R : List (Ref sig .tc)} {ops : List (HloOp τ sig (Elt F))} (h : ops.Forall (Ok R)) : ∀ op ∈ ops, op.fresh = ∅ := fun op hop =>
  ((List.forall_iff_forall_mem.mp h) op hop).fresh

end Cert.Proof.Run

end
-- ==== Proof.Main.lean ====
/-
  @main on the TensorCore: its host operations, the three pallas_calls and the two SparseCore calls, in turn.
-/
module

public import proofs.«01_k».proof.Proof.Hold

@[expose] public section

noncomputable section

namespace Cert.Proof.Run

open Cert.KernelIdeal Cert.KernelIdeal.Gen
open Idealize.ShloMosaic
open Idealize.ShloMosaic.StableHlo (held held_congr after seq)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.Proof.Host

variable {F : FTy → Type} [FloatOps F] [∀ e, Nonempty (Elt F e)]

local notation "𝕄" => MT nD τ sig (HIx 2) (Elt F) ℕ UU ℕ

section
variable (d : Dev nD) {S : Finset (DevRef τ sig)} (V : Valuation τ sig (Elt F))

/-- A stretch of host operations. -/
theorem host_step (ops : List (HloOp τ sig (Elt F))) (hS : ∀ op ∈ ops, op.bufs ⊆ S) (hf : ∀ op ∈ ops, op.fresh = ∅) :
    (iprop(boundary (SparseCore.T d : Thread nD τ) ∗ held (SparseCore.T d : Thread nD τ) S V) : sProp 𝕄)
      ⊢ wp frame (wpE ((K (F := F)).defs D) 𝒱 (SparseCore.T d) none) Set.univ (seq ops) fun _ =>
          iprop(boundary (SparseCore.T d : Thread nD τ) ∗ held (SparseCore.T d : Thread nD τ) S (after ops V)) := by
  have h := StableHlo.wp_seq (defs := (K (F := F)).defs D) (Ix := HIx 2) (Name := ℕ) (U := UU) (Lvl := ℕ) 𝒱 none Set.univ d S (fun _ => (pure ⟨⟩ : Prog (TpuEff nD τ sig (Elt F) (SparseCore.Sig (ΛP (F := F)) 2) .tc) PUnit))
    (K := fun _ => iprop(boundary (SparseCore.T d : Thread nD τ) ∗ held (SparseCore.T d : Thread nD τ) S (after ops V))) ops hS hf V
  rw [show (seq ops >>= fun _ => (pure ⟨⟩ : Prog (TpuEff nD τ sig (Elt F) (SparseCore.Sig (ΛP (F := F)) 2) .tc) PUnit)) = seq ops from bind_pure _] at h
  iintro H
  iapply h $$ H
  iintro H
  rw [wp_pure]
  imodintro
  iexact H

/-- The users' packing. -/
theorem pack_users (h₁ : dr main_v10 ∈ S) (h₂ : dr main_v11 ∈ S) :
    (iprop(boundary (SparseCore.T d : Thread nD τ) ∗ levAts (K (F := F)).L (K (F := F)).lev ∗ (K (F := F)).tcSt EH d 0
        ∗ held (SparseCore.T d : Thread nD τ) S V ∗ regGhost 0 d) : sProp 𝕄)
      ⊢ wp frame (wpE ((K (F := F)).defs D) 𝒱 (SparseCore.T d) none) Set.univ (callOf 0) fun _ =>
          iprop(boundary (SparseCore.T d : Thread nD τ) ∗ (K (F := F)).tcSt EH d 0
            ∗ ∃ f, ⌜Made0 V d f⌝ ∗ held (SparseCore.T d : Thread nD τ) S (Function.update V (dr main_v11) f)) := by
  classical
  have h₁' : dr main_v10 ∈ S.erase (dr main_v11) := Finset.mem_erase.mpr ⟨by decide, h₁⟩
  rw [held_out d h₂ V, held_out d h₁' V]
  iintro ⟨Hb, Hl, Hst, ⟨H11, H10, H⟩, Hg⟩
  iapply (wp_wand frame (wpE ((K (F := F)).defs D) 𝒱 (SparseCore.T d) none)) $$ [Hb Hl Hst H11 H10 Hg]
  · iapply (step0 V d)
    isplitl [Hb]; · iexact Hb
    isplitl [Hl]; · iexact Hl
    isplitl [Hst]; · iexact Hst
    isplitl [H11 H10]
    · isplitl [H10] <;> iassumption
    iexact Hg
  iintro %_ ⟨Hb, Hst, H10, %f, %hf, H11⟩
  isplitl [Hb]; · iexact Hb
  isplitl [Hst]; · iexact Hst
  iexists f
  isplitr; · ipureintro; exact hf
  rw [← held_in d h₂ V f, held_out d h₁' V]
  isplitl [H11]; · iexact H11
  isplitl [H10] <;> iassumption

/-- The items' packing. -/
theorem pack_items (Vr : Valuation τ sig (Elt F)) (e₁ : V (dr main_v13) = Vr (dr main_v13)) (e₂ : V (dr main_v14) = Vr (dr main_v14))
    (h₁ : dr main_v13 ∈ S) (h₂ : dr main_v14 ∈ S) :
    (iprop(boundary (SparseCore.T d : Thread nD τ) ∗ levAts (K (F := F)).L (K (F := F)).lev ∗ (K (F := F)).tcSt EH d 1
        ∗ held (SparseCore.T d : Thread nD τ) S V ∗ regGhost 1 d) : sProp 𝕄)
      ⊢ wp frame (wpE ((K (F := F)).defs D) 𝒱 (SparseCore.T d) none) Set.univ (callOf 1) fun _ =>
          iprop(boundary (SparseCore.T d : Thread nD τ) ∗ (K (F := F)).tcSt EH d 1
            ∗ ∃ f, ⌜Made2 Vr d f⌝ ∗ held (SparseCore.T d : Thread nD τ) S (Function.update V (dr main_v14) f)) := by
  classical
  have h₁' : dr main_v13 ∈ S.erase (dr main_v14) := Finset.mem_erase.mpr ⟨by decide, h₁⟩
  rw [held_out d h₂ V, held_out d h₁' V, e₁, e₂]
  iintro ⟨Hb, Hl, Hst, ⟨H14, H13, H⟩, Hg⟩
  iapply (wp_wand frame (wpE ((K (F := F)).defs D) 𝒱 (SparseCore.T d) none)) $$ [Hb Hl Hst H14 H13 Hg]
  · iapply (step2 Vr d)
    isplitl [Hb]; · iexact Hb
    isplitl [Hl]; · iexact Hl
    isplitl [Hst]; · iexact Hst
    isplitl [H14 H13]
    · isplitl [H13] <;> iassumption
    iexact Hg
  iintro %_ ⟨Hb, Hst, H13, %f, %hf, H14⟩
  isplitl [Hb]; · iexact Hb
  isplitl [Hst]; · iexact Hst
  iexists f
  isplitr; · ipureintro; exact hf
  rw [← held_in d h₂ V f, held_out d h₁' V, e₁]
  isplitl [H14]; · iexact H14
  isplitl [H13] <;> iassumption

/-- The buffers of the dense call. -/
abbrev nine : Finset (DevRef τ sig) :=
  {dr main_v12, dr main_v15, dr main_v18, dr main_v21, dr main_v22, dr main_v23, dr main_v24, dr main_v25, dr main_v26}

theorem held_nine : (held (SparseCore.T d : Thread nD τ) nine V : sProp 𝕄) = denseIn V d := by
  unfold held nine denseIn
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The dense call. -/
theorem dense_step (hS : nine ⊆ S) :
    (iprop(boundary (SparseCore.T d : Thread nD τ) ∗ levAts (K (F := F)).L (K (F := F)).lev ∗ (K (F := F)).tcSt EH d 2
        ∗ held (SparseCore.T d : Thread nD τ) S V ∗ regGhost 2 d) : sProp 𝕄)
      ⊢ wp frame (wpE ((K (F := F)).defs D) 𝒱 (SparseCore.T d) none) Set.univ (callOf 2) fun _ =>
          iprop(boundary (SparseCore.T d : Thread nD τ) ∗ (K (F := F)).tcSt EH d 2
            ∗ ∃ f, ⌜Made4 V d f⌝ ∗ held (SparseCore.T d : Thread nD τ) S (Function.update V (dr main_v26) f)) := by
  classical
  rw [StableHlo.held_sub_split _ hS V, held_nine]
  iintro ⟨Hb, Hl, Hst, ⟨H9, H⟩, Hg⟩
  iapply (wp_wand frame (wpE ((K (F := F)).defs D) 𝒱 (SparseCore.T d) none)) $$ [Hb Hl Hst H9 Hg]
  · iapply (step4 V d)
    isplitl [Hb]; · iexact Hb
    isplitl [Hl]; · iexact Hl
    isplitl [Hst]; · iexact Hst
    isplitl [H9] <;> iassumption
  iintro %_ ⟨Hb, Hst, %f, %hf, H9⟩
  isplitl [Hb]; · iexact Hb
  isplitl [Hst]; · iexact Hst
  iexists f
  isplitr; · ipureintro; exact hf
  have e : (held (SparseCore.T d : Thread nD τ) (S \ nine) (Function.update V (dr main_v26) f) : sProp 𝕄) = held (SparseCore.T d : Thread nD τ) (S \ nine) V :=
    held_congr _ fun b hb => Function.update_of_ne (fun h => (Finset.mem_sdiff.mp hb).2 (by rw [h]; decide)) _ _
  rw [StableHlo.held_sub_split _ hS (Function.update V (dr main_v26) f), held_nine, e]
  isplitl [H9] <;> iassumption

end

/-! ## The SparseCore calls -/

section
variable (Pk : Fin 2 → Dev nD → (S253952x128.Idx → Elt F .f32) → Prop) (I : Fin 2 → Dev nD → S16384.Idx → BitVec 32) (d : Dev nD)
  {S : Finset (DevRef τ sig)} (V : Valuation τ sig (Elt F)) (κ : GSem nD τ sig → ℕ)

/-- The users' gather. -/
theorem gather_users (e : V (dr main_v4) = I 0 d) (hPk : Pk 0 d (V (dr main_v11))) (h₁ : dr main_v4 ∈ S) (h₂ : dr main_v11 ∈ S) (h₃ : dr main_v12 ∈ S) :
    (iprop((K (F := F)).ctx EH (P Pk I) κ ∗ (K (F := F)).tcSt EH d 0 ∗ held (SparseCore.T d : Thread nD τ) S V) : sProp 𝕄)
      ⊢ wp frame (wpE ((K (F := F)).defs D) 𝒱 (SparseCore.T d) none) Set.univ (sc.run d 0) fun _ =>
          iprop((K (F := F)).tcSt EH d 1 ∗ ∃ f, ⌜∀ w, Gathered (Pk 0 d) (I 0 d) (oSet w) f⌝
            ∗ held (SparseCore.T d : Thread nD τ) ((S.erase (dr main_v4)).erase (dr main_v11)) (Function.update V (dr main_v12) f)) := by
  classical
  have h₂' : dr main_v11 ∈ S.erase (dr main_v4) := Finset.mem_erase.mpr ⟨by decide, h₂⟩
  have h₃' : dr main_v12 ∈ (S.erase (dr main_v4)).erase (dr main_v11) := Finset.mem_erase.mpr ⟨by decide, Finset.mem_erase.mpr ⟨by decide, h₃⟩⟩
  rw [held_out d h₁ V, held_out d h₂' V, held_out d h₃' V, e]
  iintro ⟨#Hctx, Hst, H4, H11, H12, H⟩
  iapply ((K (F := F)).wp_run (D (F := F)) 𝒱 (EH := EH) (P := P Pk I) κ d 0) $$ [Hst H4 H11 H12 H]
  isplitr; · iexact Hctx
  isplitl [Hst]; · iexact Hst
  isplitl [H4 H11 H12]
  · iapply (deal_users Pk I d _ hPk _)
    isplitl [H4]; · iexact H4
    isplitl [H11] <;> iassumption
  iintro ⟨Hst, Hdn⟩
  isplitl [Hst]; · iexact Hst
  ihave Hdn := (collect_users Pk I d) $$ Hdn
  icases Hdn with ⟨%f, %hf, H12⟩
  iexists f
  isplitr; · ipureintro; exact hf
  rw [← held_in d h₃' V f]
  isplitl [H12] <;> iassumption

/-- The items' gather. -/
theorem gather_items (e : V (dr main_v9) = I 1 d) (hPk : Pk 1 d (V (dr main_v14))) (h₁ : dr main_v9 ∈ S) (h₂ : dr main_v14 ∈ S) (h₃ : dr main_v15 ∈ S) :
    (iprop((K (F := F)).ctx EH (P Pk I) κ ∗ (K (F := F)).tcSt EH d 1 ∗ held (SparseCore.T d : Thread nD τ) S V) : sProp 𝕄)
      ⊢ wp frame (wpE ((K (F := F)).defs D) 𝒱 (SparseCore.T d) none) Set.univ (sc.run d 1) fun _ =>
          iprop((K (F := F)).tcSt EH d 2 ∗ ∃ f, ⌜∀ w, Gathered (Pk 1 d) (I 1 d) (oSet w) f⌝
            ∗ held (SparseCore.T d : Thread nD τ) ((S.erase (dr main_v9)).erase (dr main_v14)) (Function.update V (dr main_v15) f)) := by
  classical
  have h₂' : dr main_v14 ∈ S.erase (dr main_v9) := Finset.mem_erase.mpr ⟨by decide, h₂⟩
  have h₃' : dr main_v15 ∈ (S.erase (dr main_v9)).erase (dr main_v14) := Finset.mem_erase.mpr ⟨by decide, Finset.mem_erase.mpr ⟨by decide, h₃⟩⟩
  rw [held_out d h₁ V, held_out d h₂' V, held_out d h₃' V, e]
  iintro ⟨#Hctx, Hst, H9, H14, H15, H⟩
  iapply ((K (F := F)).wp_run (D (F := F)) 𝒱 (EH := EH) (P := P Pk I) κ d 1) $$ [Hst H9 H14 H15 H]
  isplitr; · iexact Hctx
  isplitl [Hst]; · iexact Hst
  isplitl [H9 H14 H15]
  · iapply (deal_items Pk I d _ hPk _)
    isplitl [H9]; · iexact H9
    isplitl [H14] <;> iassumption
  iintro ⟨Hst, Hdn⟩
  isplitl [Hst]; · iexact Hst
  ihave Hdn := (collect_items Pk I d) $$ Hdn
  icases Hdn with ⟨%f, %hf, H15⟩
  iexists f
  isplitr; · ipureintro; exact hf
  rw [← held_in d h₃' V f]
  isplitl [H15] <;> iassumption

end

end Cert.Proof.Run

end
-- ==== Proof.Launch.lean ====
/-
  The program's run: @main from the launch, and what the launch's buffers hold at its end.
-/
module

public import proofs.«01_k».proof.Proof.Main

@[expose] public section

noncomputable section

namespace Cert.Proof.Run

open Cert.KernelIdeal Cert.KernelIdeal.Gen
open Idealize.ShloMosaic
open Idealize.ShloMosaic.StableHlo (held held_congr after seq)
open Idealize.ShloMosaic.SparseCore (S V T)
open Idealize.ShloMosaic.SparseCore.Cfg (HIx Pay)
open Idealize.ShloMosaic.Pipeline (pin)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Host

variable {F : FTy → Type} [FloatOps F] [∀ e, Nonempty (Elt F e)]

local notation "𝕄" => MT nD τ sig (HIx 2) (Elt F) ℕ UU ℕ

variable (m : (ℓ : Loc nD τ sig) → Buf (Elt F) ℓ) (ρ : Dev nD → PrngReg)

/-! ## The buffers through @main -/

/-- The buffers at the launch. -/
def V0 (d : Dev nD) : Valuation τ sig (Elt F) := fun b => m (d, b)
/-- The buffers before the users' packing. -/
def V1 (d : Dev nD) : Valuation τ sig (Elt F) := after ops0 (V0 m d)
/-- The buffers the items' packing reads. -/
def V2 (d : Dev nD) : Valuation τ sig (Elt F) := after ops1 (V1 m d)
/-- The two calls' lists. -/
def IX (q : Fin 2) (d : Dev nD) : S16384.Idx → BitVec 32 := match q with | 0 => V1 m d (dr main_v4) | 1 => V1 m d (dr main_v9)
/-- The two calls' tables. -/
def PK (q : Fin 2) (d : Dev nD) : (S253952x128.Idx → Elt F .f32) → Prop := match q with | 0 => Made0 (V1 m d) d | 1 => Made2 (V2 m d) d

/-- The buffers after the first call's gather. -/
def V3 (d : Dev nD) (f11 : S253952x128.Idx → Elt F .f32) (f12 : S16384x128.Idx → Elt F .f32) : Valuation τ sig (Elt F) :=
  Function.update (Function.update (V1 m d) (dr main_v11) f11) (dr main_v12) f12
/-- The buffers before the dense call. -/
def V4 (d : Dev nD) (f11 f14 : S253952x128.Idx → Elt F .f32) (f12 f15 : S16384x128.Idx → Elt F .f32) : Valuation τ sig (Elt F) :=
  after ops2 (Function.update (Function.update (after ops1 (V3 m d f11 f12)) (dr main_v14) f14) (dr main_v15) f15)
/-- The buffers at the end. -/
def V5 (d : Dev nD) (f11 f14 : S253952x128.Idx → Elt F .f32) (f12 f15 : S16384x128.Idx → Elt F .f32) (f26 : S16384x1.Idx → Elt F .f32) : Valuation τ sig (Elt F) :=
  after ops3 (Function.update (V4 m d f11 f14 f12 f15) (dr main_v26) f26)

/-- What @main may end with. -/
def Reach (d : Dev nD) (W : Valuation τ sig (Elt F)) : Prop :=
  ∃ f11 f14 f12 f15 f26, (∀ w, Gathered (PK m 0 d) (IX m 0 d) (oSet w) f12) ∧ (∀ w, Gathered (PK m 1 d) (IX m 1 d) (oSet w) f15)
    ∧ Made4 (V4 m d f11 f14 f12 f15) d f26 ∧ W = V5 m d f11 f14 f12 f15 f26

/-- The second stretch writes one buffer. -/
theorem ops1_keep (W : Valuation τ sig (Elt F)) (b : Ref sig .tc) (h : b ≠ main_v13) : after ops1 W (dr b) = W (dr b) :=
  StableHlo.after_of_writes_sub (W := [main_v13]) ops1 W (StableHlo.forall_writes_sub_of_map rfl) (by simpa using h)
theorem ops1_made (W : Valuation τ sig (Elt F)) :
    after ops1 W (dr main_v13) = transpose S32x1000000 [1, 0] (W (dr main_arg3) : S1000000x32.Idx → Elt F .f32) transposes_S1000000x32_S32x1000000_1_0 := by
  unfold ops1
  after_results_simp
theorem V3_keep (d : Dev nD) (f11 f12) (b : Ref sig .tc) (h₁ : b ≠ main_v11) (h₂ : b ≠ main_v12) : V3 m d f11 f12 (dr b) = V1 m d (dr b) := by
  unfold V3
  rw [Function.update_of_ne fun e => h₂ (Proc.devRef_injective _ e), Function.update_of_ne fun e => h₁ (Proc.devRef_injective _ e)]

/-- The items' table transposed does not depend on the users' call. -/
theorem items_in (d : Dev nD) (f11 f12) : after ops1 (V3 m d f11 f12) (dr main_v13) = V2 m d (dr main_v13) := by
  unfold V2
  rw [ops1_made, ops1_made, V3_keep m d f11 f12 main_arg3 (by decide) (by decide)]
theorem items_out (d : Dev nD) (f11 f12) : after ops1 (V3 m d f11 f12) (dr main_v14) = V2 m d (dr main_v14) := by
  unfold V2
  rw [ops1_keep _ _ (by decide), ops1_keep _ _ (by decide), V3_keep m d f11 f12 _ (by decide) (by decide)]
theorem items_list (d : Dev nD) (f11 f12 f14) :
    Function.update (after ops1 (V3 m d f11 f12)) (dr main_v14) f14 (dr main_v9) = IX m 1 d := by
  rw [Function.update_of_ne (by decide), ops1_keep _ _ (by decide), V3_keep m d f11 f12 _ (by decide) (by decide)]
  rfl
theorem users_list (d : Dev nD) (f11) : Function.update (V1 m d) (dr main_v11) f11 (dr main_v4) = IX m 0 d := by
  rw [Function.update_of_ne (by decide)]
  rfl
theorem table_users (d : Dev nD) (f11) (h : Made0 (V1 m d) d f11) : PK m 0 d (Function.update (V1 m d) (dr main_v11) f11 (dr main_v11)) := by
  rw [Function.update_self]
  exact h
theorem table_items (d : Dev nD) (W : Valuation τ sig (Elt F)) (f14) (h : Made2 (V2 m d) d f14) : PK m 1 d (Function.update W (dr main_v14) f14 (dr main_v14)) := by
  rw [Function.update_self]
  exact h

/-! ## @main -/

/-- The three pallas_calls' ghost state on a device. -/
def G (d : Dev nD) : sProp 𝕄 := iprop(regGhost 0 d ∗ regGhost 1 d ∗ regGhost 2 d)
/-- What @main leaves. -/
def FIN (d : Dev nD) : sProp 𝕄 := iprop(∃ W, ⌜Reach m d W⌝ ∗ held (SparseCore.T d : Thread nD τ) S2 W)

theorem nine_sub : nine ⊆ S2 := by
  intro b hb
  simp only [nine, Finset.mem_insert, Finset.mem_singleton] at hb
  rcases hb with rfl | rfl | rfl | rfl | rfl | rfl | rfl | rfl | rfl <;>
    exact mem_S2 _ (by decide) (by decide) (by decide) (by decide) (by decide)

theorem sub0 : ∀ op ∈ (ops0 : List (HloOp τ sig (Elt F))), op.bufs ⊆ S0 := sub_S0 (F := F) (ops := ops0) (ops0_ok (F := F))
theorem new0 : ∀ op ∈ (ops0 : List (HloOp τ sig (Elt F))), op.fresh = ∅ := fresh_of (F := F) (ops := ops0) (ops0_ok (F := F))
theorem sub1 : ∀ op ∈ (ops1 : List (HloOp τ sig (Elt F))), op.bufs ⊆ S1 := sub_S1 (F := F) (ops := ops1) (ops1_ok (F := F))
theorem new1 : ∀ op ∈ (ops1 : List (HloOp τ sig (Elt F))), op.fresh = ∅ := fresh_of (F := F) (ops := ops1) (ops1_ok (F := F))
theorem sub2 : ∀ op ∈ (ops2 : List (HloOp τ sig (Elt F))), op.bufs ⊆ S2 := sub_S2 (F := F) (ops := ops2) (ops2_ok (F := F))
theorem new2 : ∀ op ∈ (ops2 : List (HloOp τ sig (Elt F))), op.fresh = ∅ := fresh_of (F := F) (ops := ops2) (ops2_ok (F := F))
theorem sub3 : ∀ op ∈ (ops3 : List (HloOp τ sig (Elt F))), op.bufs ⊆ S2 := sub_S2 (F := F) (ops := ops3) (ops3_ok (F := F))
theorem new3 : ∀ op ∈ (ops3 : List (HloOp τ sig (Elt F))), op.fresh = ∅ := fresh_of (F := F) (ops := ops3) (ops3_ok (F := F))

attribute [local irreducible] ops0 ops1 ops2 ops3

/-- The same contents by another name. -/
theorem held_same (d : Dev nD) {S : Finset (DevRef τ sig)} {W W' : Valuation τ sig (Elt F)} (h : W = W') :
    (held (SparseCore.T d : Thread nD τ) S W : sProp 𝕄) ⊢ held (SparseCore.T d : Thread nD τ) S W' := by
  rw [h]

/-- The launch's buffers, held. -/
theorem launch_held (d : Dev nD) : (unscopedBufs d (fun b => m ((SparseCore.T d : Thread nD τ).loc b)) : sProp 𝕄) = held (SparseCore.T d : Thread nD τ) S0 (V0 m d) :=
  Pipeline.unscopedBufs_held (Ix := HIx 2) (Name := ℕ) (U := UU) (Lvl := ℕ) d (V0 m d)

theorem hmain (κ : GSem nD τ sig → ℕ) (d : Dev nD) :
    iprop((K (F := F)).ctx EH (P (PK m) (IX m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd G
  rw [launch_held, main_eq]
  simp only [wp_bind]
  iintro ⟨#Hctx, Hst, ⟨Hb, H, Hts, -⟩, Hg0, Hg1, Hg2⟩
  ihave #Hlev := (SparseCore.Cfg.ctx_levAts κ) $$ Hctx
  -- the host up to the users' packing
  iapply (wp_wand frame (wpE ((K (F := F)).defs D) 𝒱 (SparseCore.T d) none)) $$ [Hb H]
  · iapply (host_step d (V0 m d) ops0 sub0 new0)
    isplitl [Hb] <;> iassumption
  iintro %_ ⟨Hb, H⟩
  -- the users' packing
  iapply (wp_wand frame (wpE ((K (F := F)).defs D) 𝒱 (SparseCore.T d) none)) $$ [Hb Hst H Hg0]
  · iapply (pack_users d (V1 m d) (mem_S0 _ (by decide)) (mem_S0 _ (by decide)))
    isplitl [Hb]; · iexact Hb
    isplitr; · iexact Hlev
    isplitl [Hst]; · iexact Hst
    isplitl [H]
    · iapply (held_same d (show after ops0 (V0 m d) = V1 m d from rfl)); iexact H
    iassumption
  iintro %_ ⟨Hb, Hst, %f11, %h11, H⟩
  -- the users' gather
  iapply (wp_wand frame (wpE ((K (F := F)).defs D) 𝒱 (SparseCore.T d) none)) $$ [Hst H]
  · iapply (gather_users (PK m) (IX m) d (Function.update (V1 m d) (dr main_v11) f11) κ (users_list m d f11)
      (table_users m d f11 h11) (mem_S0 _ (by decide)) (mem_S0 _ (by decide)) (mem_S0 _ (by decide)))
    isplitr; · iexact Hctx
    isplitl [Hst] <;> iassumption
  iintro %_ ⟨Hst, %f12, %h12, H⟩
  -- the host up to the items' packing
  iapply (wp_wand frame (wpE ((K (F := F)).defs D) 𝒱 (SparseCore.T d) none)) $$ [Hb H]
  · iapply (host_step d (V3 m d f11 f12) (S := S1) ops1 sub1 new1)
    isplitl [Hb]; · iexact Hb
    iapply (held_same d (show Function.update (Function.update (V1 m d) (dr main_v11) f11) (dr main_v12) f12 = V3 m d f11 f12 from rfl)); iexact H
  iintro %_ ⟨Hb, H⟩
  -- the items' packing
  iapply (wp_wand frame (wpE ((K (F := F)).defs D) 𝒱 (SparseCore.T d) none)) $$ [Hb Hst H Hg1]
  · iapply (pack_items d (after ops1 (V3 m d f11 f12)) (V2 m d) (items_in m d f11 f12) (items_out m d f11 f12)
      (mem_S1 _ (by decide) (by decide) (by decide)) (mem_S1 _ (by decide) (by decide) (by decide)))
    isplitl [Hb]; · iexact Hb
    isplitr; · iexact Hlev
    isplitl [Hst]; · iexact Hst
    isplitl [H] <;> iassumption
  iintro %_ ⟨Hb, Hst, %f14, %h14, H⟩
  -- the items' gather
  iapply (wp_wand frame (wpE ((K (F := F)).defs D) 𝒱 (SparseCore.T d) none)) $$ [Hst H]
  · iapply (gather_items (PK m) (IX m) d (Function.update (after ops1 (V3 m d f11 f12)) (dr main_v14) f14) κ (items_list m d f11 f12 f14)
      (table_items m d _ f14 h14) (mem_S1 _ (by decide) (by decide) (by decide)) (mem_S1 _ (by decide) (by decide) (by decide)) (mem_S1 _ (by decide) (by decide) (by decide)))
    isplitr; · iexact Hctx
    isplitl [Hst] <;> iassumption
  iintro %_ ⟨Hst, %f15, %h15, H⟩
  -- the host up to the dense call
  iapply (wp_wand frame (wpE ((K (F := F)).defs D) 𝒱 (SparseCore.T d) none)) $$ [Hb H]
  · iapply (host_step d (Function.update (Function.update (after ops1 (V3 m d f11 f12)) (dr main_v14) f14) (dr main_v15) f15) (S := S2) ops2 sub2 new2)
    isplitl [Hb] <;> iassumption
  iintro %_ ⟨Hb, H⟩
  -- the dense call
  iapply (wp_wand frame (wpE ((K (F := F)).defs D) 𝒱 (SparseCore.T d) none)) $$ [Hb Hst H Hg2]
  · iapply (dense_step d (V4 m d f11 f14 f12 f15) nine_sub)
    isplitl [Hb]; · iexact Hb
    isplitr; · iexact Hlev
    isplitl [Hst]; · iexact Hst
    isplitl [H]
    · iapply (held_same d (show after ops2 (Function.update (Function.update (after ops1 (V3 m d f11 f12)) (dr main_v14) f14) (dr main_v15) f15) = V4 m d f11 f14 f12 f15 from rfl)); iexact H
    iassumption
  iintro %_ ⟨Hb, Hst, %f26, %h26, H⟩
  -- the end
  iapply (wp_wand frame (wpE ((K (F := F)).defs D) 𝒱 (SparseCore.T d) none)) $$ [Hb H]
  · iapply (host_step d (Function.update (V4 m d f11 f14 f12 f15) (dr main_v26) f26) (S := S2) ops3 sub3 new3)
    isplitl [Hb] <;> iassumption
  iintro %_ ⟨Hb, H⟩
  isplitl [Hst]; · iexact Hst
  isplitl [H]
  · unfold FIN
    iexists V5 m d f11 f14 f12 f15 f26
    isplitr
    · ipureintro; exact ⟨f11, f14, f12, f15, f26, h12, h15, h26, rfl⟩
    · iexact H
  isplitl [Hb] <;> iassumption

/-! ## The launch's own ghost state -/

def u₀ : UU := ((initOf (K (F := F)).hsCells (K (F := F)).hsToks,
  initOf (Pipeline.cells (pin (pcfgs (F := F)) adm) pinj) (Pipeline.launchToks (pin (pcfgs (F := F)) adm) pinj)), 1)

omit [∀ e, Nonempty (Elt F e)] in
theorem bigSep_emp' {I : Type} (s : Finset I) : (bigSep s fun _ => iprop(emp)) = (iprop(emp) : sProp 𝕄) := bigSep_emp_const s

theorem ghosts : iprop((bigSep Finset.univ fun c : Dev nD => bigSep Finset.univ fun p => Pipeline.cellsGhost (pin (pcfgs (F := F)) adm) EP p c)
      ∗ (bigSep Finset.univ fun c : Dev nD => bigSep Finset.univ fun p => (Pipeline.toksInit (pin (pcfgs (F := F)) adm) EP p c : sProp 𝕄)))
    ⊢ (bigSep Finset.univ G : sProp 𝕄) := by
  rw [← bigSep_sep']
  refine bigSep_mono fun c _ => ?_
  rw [← bigSep_sep']
  rw [show (Finset.univ : Finset (Fin 3)) = {0, 1, 2} by decide, SparseCore.bigSep_insert' (by decide), SparseCore.bigSep_insert' (by decide), bigSep_singleton]
  exact BI.Entails.refl _

theorem hu₀ : (ownU (u₀ (F := F)) : sProp 𝕄)
    ⊢ |={Set.univ}=> iprop(BI.own (EH (initOf (K (F := F)).hsCells (K (F := F)).hsToks)) ∗ (bigSep Finset.univ G)
        ∗ bigSep Finset.univ fun thr : Thread nD τ => bigSep Finset.univ fun q : Fin 2 => (P (PK m) (IX m)).x q thr) := by
  unfold u₀
  iintro Hu
  ihave H := (ownU_split _ _) $$ Hu
  icases H with ⟨HH, HP⟩
  imod (Pipeline.fund_ghost (pin (pcfgs (F := F)) adm) EP pinj) $$ HP with HP
  imodintro
  isplitl [HH]; · iexact HH
  isplitl [HP]; · iapply ghosts; iexact HP
  rw [show (bigSep Finset.univ fun thr : Thread nD τ => bigSep Finset.univ fun q : Fin 2 => (P (PK m) (IX m)).x q thr) = (bigSep Finset.univ fun _ => iprop(emp) : sProp 𝕄) from
    bigSep_congr fun _ _ => bigSep_emp' _, bigSep_emp']
  iempintro

/-! ## The run -/

/-- What the memory holds at the end: the program's ten arrays are as some reachable contents have them. -/
def fq (d : Dev nD) (s' : Phys nD τ sig (Elt F)) : Prop := ∃ W, Reach m d W ∧ ∀ b, dr b ∈ S2 → s'.mem.mem ((SparseCore.T d : Thread nD τ).loc b) = W (dr b)

theorem held_agree (d : Dev nD) (s' : Phys nD τ sig (Elt F)) (W : Valuation τ sig (Elt F)) (b : Ref sig .tc) (hb : dr b ∈ S2) :
    iprop(held (SparseCore.T d : Thread nD τ) S2 W ∗ SI s') ⊢ (⌜s'.mem.mem ((SparseCore.T d : Thread nD τ).loc b) = W (dr b)⌝ : sProp 𝕄) := by
  rw [held_out d hb W]
  iintro ⟨⟨Hb, -⟩, HSI⟩
  ihave H := (SI_pointsTo_agree (st := s') (ℓ := (SparseCore.T d : Thread nD τ).loc b) (I := Finset.univ) (q := fullShare) (f := W (dr b))) $$ [HSI Hb]
  · isplitl [HSI] <;> iassumption
  icases H with %h
  ipureintro
  exact funext fun i => h i (Finset.mem_univ i)

theorem hfin (d : Dev nD) (s' : Phys nD τ sig (Elt F)) : iprop(FIN m d ∗ SI s') ⊢ (⌜fq m d s'⌝ : sProp 𝕄) := by
  have h (W : Valuation τ sig (Elt F)) : iprop(held (SparseCore.T d : Thread nD τ) S2 W ∗ SI s')
      ⊢ (⌜∀ b, dr b ∈ S2 → s'.mem.mem ((SparseCore.T d : Thread nD τ).loc b) = W (dr b)⌝ : sProp 𝕄) := by
    refine (forall_intro fun b => ?_).trans pure_forall.2
    by_cases hb : dr b ∈ S2
    · exact (held_agree d s' W b hb).trans (BI.pure_mono fun h _ => h)
    · exact BI.pure_intro fun h => absurd h hb
  unfold FIN
  iintro ⟨⟨%W, %hW, H⟩, HSI⟩
  ihave H := (h W) $$ [H HSI]
  · isplitl [H] <;> iassumption
  icases H with %h
  ipureintro
  exact ⟨W, hW, h⟩

def QC : PUnit × MemSt nD τ sig (Elt F) → Prop := fun r =>
  (∀ d : Dev nD, ∃ W, Reach m d W ∧ ∀ b, dr b ∈ S2 → r.2.mem ((SparseCore.T d : Thread nD τ).loc b) = W (dr b)) ∧ r.2.sem = fun _ => 0

theorem run_main (hI : ∀ q d, InTable (IX m q d)) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (PK m) (IX m)) (A := ∅) facts v₀
    (fun q hq => match q with | 0 => nomatch hq | 1 => nomatch hq)
    (fun q _ => match q with | 0 => tileObl_users (PK m) (IX m) facts hI | 1 => tileObl_items (PK m) (IX m) facts hI)
    (fun q _ => SparseCore.Cfg.VecSplit.of_plain (vecSplit (PK m) (IX m) q))
    m ρ main G (FIN m) (u₀ (F := F)) (sep_elim_left.trans (hu₀ m)) (hmain m ρ) (fq m) (hfin m) (QC m) (fun _ h hz => ⟨h, hz⟩)

end Cert.Proof.Run

end
-- ==== Proof.HostRead.lean ====
/-
  What the host's stretches leave in the buffers the kernels read.
-/
module

public import proofs.«01_k».proof.Proof.Launch
public import Idealize.ShloMosaic.Lib.Routing.Words

@[expose] public section

noncomputable section

namespace Cert.Proof.Run

open Cert.KernelIdeal Cert.KernelIdeal.Gen
open Idealize.ShloMosaic
open Idealize.ShloMosaic.StableHlo
open Cert.Proof.Host

variable {F : FTy → Type} [FloatOps F]

/-- The host's floored division, array by scalar. -/
def fdivA (x : IVec S16384 32) (c : IVec S_ 32) : IVec S16384 32 :=
  let q := Host.divsi x (broadcastInDim S16384 ![] bcast_S_S16384 c)
  select (andi (cmpi .ne (signi x) (broadcastInDim S16384 ![] bcast_S_S16384 (signi c)))
      (cmpi .ne (Host.remsi x (broadcastInDim S16384 ![] bcast_S_S16384 c)) (broadcastInDim S16384 ![] bcast_S_S16384 (constantI S_ 32 0#32))))
    (subi q (broadcastInDim S16384 ![] bcast_S_S16384 (constantI S_ 32 1#32))) q

/-- The host's floored remainder, array by scalar. -/
def remA (x : IVec S16384 32) (c : IVec S_ 32) : IVec S16384 32 :=
  let c' := select (cmpi .eq c (constantI S_ 32 0#32)) (constantI S_ 32 1#32) c
  let r := Host.remsi x (broadcastInDim S16384 ![] bcast_S_S16384 c')
  select (andi (cmpi .ne (cmpi .slt r (broadcastInDim S16384 ![] bcast_S_S16384 (constantI S_ 32 0#32)))
        (broadcastInDim S16384 ![] bcast_S_S16384 (cmpi .slt c' (constantI S_ 32 0#32))))
      (cmpi .ne r (broadcastInDim S16384 ![] bcast_S_S16384 (constantI S_ 32 0#32))))
    (addi r (broadcastInDim S16384 ![] bcast_S_S16384 c')) r

/-- A packed line's number: `32768`-column block by `8192` lines, then the column within its quarter. -/
def lineA (x : IVec S16384 32) : IVec S16384 32 :=
  addi (muli (fdivA x (constantI S_ 32 32768#32)) (broadcastInDim S16384 ![] bcast_S_S16384 (constantI S_ 32 8192#32))) (remA x (constantI S_ 32 8192#32))

/-- The lane group: which quarter of its block. -/
def groupA (x : IVec S16384 32) : IVec S16384 32 := fdivA (remA x (constantI S_ 32 32768#32)) (constantI S_ 32 8192#32)

variable (W : Valuation τ sig (Elt F))

theorem read_users_list : after ops0 W (dr main_v4) = lineA (W (dr main_arg0)) := by
  simp only [ops0, floorDivOps, remOps, List.cons_append, List.nil_append, TRef.binary, TRef.nullary, TRef.ternary, TRef.unary, TRef.toBuf, TRef.ofBuf, cast_eq]
  after_results_simp
  rfl
theorem read_items_list : after ops0 W (dr main_v9) = lineA (W (dr main_arg1)) := by
  simp only [ops0, floorDivOps, remOps, List.cons_append, List.nil_append, TRef.binary, TRef.nullary, TRef.ternary, TRef.unary, TRef.toBuf, TRef.ofBuf, cast_eq]
  after_results_simp
  rfl
theorem read_users_table : after ops0 W (dr main_v10) = transpose S32x1000000 [1, 0] (W (dr main_arg2) : S1000000x32.Idx → Elt F .f32) transposes_S1000000x32_S32x1000000_1_0 := by
  simp only [ops0, floorDivOps, remOps, List.cons_append, List.nil_append, TRef.binary, TRef.nullary, TRef.ternary, TRef.unary, TRef.toBuf, TRef.ofBuf, cast_eq]
  after_results_simp
theorem read_users_group : after ops2 W (dr main_v18) = shapeCast S16384x1 (groupA (W (dr main_arg0))) shapeCasts_S16384_S16384x1 := by
  simp only [ops2, floorDivOps1, remOps, List.cons_append, List.nil_append, TRef.binary, TRef.nullary, TRef.ternary, TRef.unary, TRef.toBuf, TRef.ofBuf, cast_eq]
  after_results_simp
  rfl
theorem read_items_group : after ops2 W (dr main_v21) = shapeCast S16384x1 (groupA (W (dr main_arg1))) shapeCasts_S16384_S16384x1 := by
  simp only [ops2, floorDivOps1, remOps, List.cons_append, List.nil_append, TRef.binary, TRef.nullary, TRef.ternary, TRef.unary, TRef.toBuf, TRef.ofBuf, cast_eq]
  after_results_simp
  rfl
theorem read_weight_users : after ops2 W (dr main_v22) = transpose S32x32 [1, 0] (W (dr main_arg4) : S32x32.Idx → Elt F .f32) transposes_S32x32_S32x32_1_0 := by
  simp only [ops2, floorDivOps1, remOps, List.cons_append, List.nil_append, TRef.binary, TRef.nullary, TRef.ternary, TRef.unary, TRef.toBuf, TRef.ofBuf, cast_eq]
  after_results_simp
theorem read_bias_users : after ops2 W (dr main_v23) = shapeCast S1x32 (W (dr main_arg5) : S32.Idx → Elt F .f32) shapeCasts_S32_S1x32 := by
  simp only [ops2, floorDivOps1, remOps, List.cons_append, List.nil_append, TRef.binary, TRef.nullary, TRef.ternary, TRef.unary, TRef.toBuf, TRef.ofBuf, cast_eq]
  after_results_simp
  rfl
theorem read_weight_items : after ops2 W (dr main_v24) = transpose S32x32 [1, 0] (W (dr main_arg6) : S32x32.Idx → Elt F .f32) transposes_S32x32_S32x32_1_0 := by
  simp only [ops2, floorDivOps1, remOps, List.cons_append, List.nil_append, TRef.binary, TRef.nullary, TRef.ternary, TRef.unary, TRef.toBuf, TRef.ofBuf, cast_eq]
  after_results_simp
theorem read_bias_items : after ops2 W (dr main_v25) = shapeCast S1x32 (W (dr main_arg7) : S32.Idx → Elt F .f32) shapeCasts_S32_S1x32 := by
  simp only [ops2, floorDivOps1, remOps, List.cons_append, List.nil_append, TRef.binary, TRef.nullary, TRef.ternary, TRef.unary, TRef.toBuf, TRef.ofBuf, cast_eq]
  after_results_simp
  rfl
theorem read_result : after ops3 W (dr main_v27) = shapeCast S16384 (W (dr main_v26) : S16384x1.Idx → Elt F .f32) shapeCasts_S16384x1_S16384 := by
  simp only [ops3]
  after_results_simp
  rfl

/-! ## What no stretch writes -/

/-- An operation that leaves the buffers `R` alone. -/
structure Keeps (R : List (Ref sig .tc)) (op : HloOp τ sig (Elt F)) : Prop where
  out : ∀ r ∈ R, dr r ∉ op.writes

omit [FloatOps F] in
theorem keeps_of {R : List (Ref sig .tc)} {op : HloOp τ sig (Elt F)} {y : Ref sig .tc} (hw : op.writes = {dr y}) (h : y ∉ R) : Keeps R op :=
  ⟨fun r hr hm => by
    rw [hw] at hm
    exact h (Proc.devRef_injective _ (Finset.mem_singleton.mp hm) ▸ hr)⟩

/-- The arguments and the gathered lines. -/
abbrev kept10 : List (Ref sig .tc) := [main_arg0, main_arg1, main_arg2, main_arg3, main_arg4, main_arg5, main_arg6, main_arg7, main_v12, main_v15]

set_option maxRecDepth 4096

theorem ops0_keeps : (ops0 : List (HloOp τ sig (Elt F))).Forall (Keeps kept10) := by
  simp only [ops0, floorDivOps, remOps, List.forall_append, List.Forall]
  and_intros <;> exact keeps_of rfl (by decide)
theorem ops1_keeps : (ops1 : List (HloOp τ sig (Elt F))).Forall (Keeps kept10) := by
  simp only [ops1, List.Forall]
  exact keeps_of rfl (by decide)
theorem ops2_keeps : (ops2 : List (HloOp τ sig (Elt F))).Forall (Keeps kept10) := by
  simp only [ops2, floorDivOps1, remOps, List.forall_append, List.Forall]
  and_intros <;> exact keeps_of rfl (by decide)
theorem ops3_keeps : (ops3 : List (HloOp τ sig (Elt F))).Forall (Keeps kept10) := by
  simp only [ops3, List.Forall]
  exact keeps_of rfl (by decide)

omit [FloatOps F] in
theorem after_keeps {R : List (Ref sig .tc)} {ops : List (HloOp τ sig (Elt F))} (h : ops.Forall (Keeps R)) (b : Ref sig .tc) (hb : b ∈ R) :
    after ops W (dr b) = W (dr b) :=
  after_of_forall_not_mem ops W fun op hop => ((List.forall_iff_forall_mem.mp h) op hop).out b hb

/-! ## The words -/

theorem toNat_divsi (u : ArithUnit) {x : BitVec 32} (hx : x.toNat < 2 ^ 31) (k : ℕ) (hk : 0 < k) (hk' : k < 2 ^ 31) :
    (IntOp.divsi u x (BitVec.ofNat 32 k)).toNat = x.toNat / k := by
  have e : x = BitVec.ofNat 32 x.toNat := by rw [BitVec.ofNat_toNat, BitVec.setWidth_eq]
  have hd : x.toNat / k < 2 ^ 32 := (Nat.div_le_self _ _).trans_lt (by omega)
  rw [e, Routing.divsi_word u hx hk hk', BitVec.toNat_ofNat, BitVec.toNat_ofNat, Nat.mod_eq_of_lt hd, Nat.mod_eq_of_lt (by omega)]

theorem select_of_ne {α : Type} {c : BitVec 1} (h : c ≠ 1#1) (a b : α) : Scalar.select c a b = b := if_neg h

theorem sign_pos {x : BitVec 32} (h : x.toNat < 2 ^ 31) (h0 : x ≠ 0) : (if x = 0 then (0 : BitVec 32) else if x.msb then -1 else 1) = 1 := by
  have : x.msb = false := by rw [BitVec.msb_eq_false_iff_two_mul_lt]; omega
  rw [if_neg h0, this]; rfl

theorem fdivA_val (x : IVec S16384 32) (i : S16384.Idx) (hx : (x i).toNat < 2 ^ 31) (k : ℕ) (hk : 0 < k) (hk' : k < 2 ^ 31) :
    (fdivA x (constantI S_ 32 (BitVec.ofNat 32 k)) i).toNat = (x i).toNat / k := by
  have hs : (if BitVec.ofNat 32 k = 0 then (0 : BitVec 32) else if (BitVec.ofNat 32 k).msb then -1 else 1) = 1 := by
    refine sign_pos ?_ fun e => ?_
    · rw [BitVec.toNat_ofNat]; omega
    · have := congrArg BitVec.toNat e
      rw [BitVec.toNat_ofNat] at this
      change k % 2 ^ 32 = 0 at this
      omega
  have hc : IntOp.andi (IntOp.cmpi .ne (if x i = 0 then (0 : BitVec 32) else if (x i).msb then -1 else 1) (if BitVec.ofNat 32 k = 0 then (0 : BitVec 32) else if (BitVec.ofNat 32 k).msb then -1 else 1))
      (IntOp.cmpi .ne (IntOp.remsi .host (x i) (BitVec.ofNat 32 k)) 0#32) ≠ 1#1 := by
    rw [Ne, IntOp.andi_eq_one, IntOp.cmpi_ne, IntOp.cmpi_ne, hs]
    rintro ⟨h1, h2⟩
    by_cases h0 : x i = 0
    · refine h2 ((IntOp.remsi_eq_zero_iff .host (by omega) k hk (by omega)).mpr ?_)
      rw [h0]; exact dvd_zero k
    · exact h1 (sign_pos hx h0)
  refine Eq.trans (congrArg BitVec.toNat (select_of_ne hc _ _)) ?_
  exact toNat_divsi .host hx k hk hk'

theorem remA_val (x : IVec S16384 32) (i : S16384.Idx) (hx : (x i).toNat < 2 ^ 31) (k : ℕ) (hk : 0 < k) (hk' : k < 2 ^ 31) :
    (remA x (constantI S_ 32 (BitVec.ofNat 32 k)) i).toNat = (x i).toNat % k := by
  have hk0 : BitVec.ofNat 32 k ≠ 0#32 := fun e => by
    have := congrArg BitVec.toNat e
    rw [BitVec.toNat_ofNat] at this
    change k % 2 ^ 32 = 0 at this
    omega
  have hsel : Scalar.select (IntOp.cmpi .eq (BitVec.ofNat 32 k) 0#32) 1#32 (BitVec.ofNat 32 k) = BitVec.ofNat 32 k :=
    select_of_ne (by rw [Ne, IntOp.cmpi_eq]; exact hk0) _ _
  have hr : (IntOp.remsi .host (x i) (BitVec.ofNat 32 k)).toNat = (x i).toNat % k := IntOp.toNat_remsi .host (by omega) k hk (by omega)
  have neg (y : BitVec 32) (hy : y.toNat < 2 ^ 31) : IntOp.cmpi .slt y 0#32 = 0#1 := by
    have : ¬ IntOp.cmpi .slt y 0#32 = 1#1 := by
      rw [IntOp.cmpi_slt, BitVec.toInt_eq_toNat_of_lt (by omega), show (0#32 : BitVec 32).toInt = 0 by decide]; omega
    revert this
    generalize IntOp.cmpi .slt y 0#32 = c
    revert c; decide
  have hlt : (x i).toNat % k < 2 ^ 31 := (Nat.mod_lt _ hk).trans hk'
  have key : ∀ c' : BitVec 32, c' = BitVec.ofNat 32 k →
      Scalar.select (IntOp.andi (IntOp.cmpi .ne (IntOp.cmpi .slt (IntOp.remsi .host (x i) c') 0#32) (IntOp.cmpi .slt c' 0#32)) (IntOp.cmpi .ne (IntOp.remsi .host (x i) c') 0#32))
        (IntOp.addi (IntOp.remsi .host (x i) c') c') (IntOp.remsi .host (x i) c') = IntOp.remsi .host (x i) (BitVec.ofNat 32 k) := by
    rintro _ rfl
    refine select_of_ne ?_ _ _
    rw [Ne, IntOp.andi_eq_one, IntOp.cmpi_ne, neg _ (by rw [hr]; exact hlt), neg _ (by rw [BitVec.toNat_ofNat]; omega)]
    exact fun h => h.1 rfl
  exact (congrArg BitVec.toNat (key _ hsel)).trans hr

/-- A row number within the tables. -/
abbrev Row (x : IVec S16384 32) : Prop := ∀ i, (x i).toNat < 1000000

theorem lineA_val {x : IVec S16384 32} (hx : Row x) (i : S16384.Idx) : (lineA x i).toNat = (x i).toNat / 32768 * 8192 + (x i).toNat % 8192 := by
  have h := hx i
  have h1 := fdivA_val x i (by omega) 32768 (by decide) (by decide)
  have h2 := remA_val x i (by omega) 8192 (by decide) (by decide)
  change (fdivA x (constantI S_ 32 32768#32) i * 8192#32 + remA x (constantI S_ 32 8192#32) i).toNat = _
  rw [BitVec.toNat_add, BitVec.toNat_mul, h1, h2]
  change ((x i).toNat / 32768 * 8192 % 2 ^ 32 + (x i).toNat % 8192) % 2 ^ 32 = _
  omega

theorem groupA_val {x : IVec S16384 32} (hx : Row x) (i : S16384.Idx) : (groupA x i).toNat = (x i).toNat % 32768 / 8192 := by
  have h := hx i
  have h2 := remA_val x i (by omega) 32768 (by decide) (by decide)
  have h1 := fdivA_val (remA x (constantI S_ 32 32768#32)) i (by rw [h2]; omega) 8192 (by decide) (by decide)
  rw [h2] at h1
  exact h1

theorem lineA_inTable {x : IVec S16384 32} (hx : Row x) : InTable (lineA x) := fun i => by
  have h := hx i
  rw [lineA_val hx]
  omega

end Cert.Proof.Run

end
-- ==== Proof.Frames.lean ====
/-
  The precondition as row numbers, and the frames: the run's values dropped, the arguments kept.
-/
module

public import proofs.«01_k».proof.Defs
public import proofs.«01_k».proof.Proof.Gen.Kernel
public import proofs.«01_k».proof.Proof.Gen.ReferenceIdeal.Run
public import proofs.«01_k».proof.Proof.HostRead

@[expose] public section

noncomputable section

namespace Cert.Proof.Run

open Cert.KernelIdeal Cert.KernelIdeal.Gen
open Idealize.ShloMosaic Idealize.SL.Sem
open Idealize.ShloMosaic.StableHlo
open Cert.Proof.Host

instance preFacts : Cert.Pre_ids_in_tables.Facts := ⟨by decide⟩

theorem andi_ofBool (p q : Bool) : IntOp.andi (BitVec.ofBool p) (BitVec.ofBool q) = BitVec.ofBool (p && q) := by
  cases p <;> cases q <;> decide
theorem ofBool_eq_one (p : Bool) : BitVec.ofBool p = 1#1 ↔ p = true := by cases p <;> decide

section
variable {F : FTy → Type} [FloatOps F]

/-- The precondition says every index names a row of its table. -/
theorem rows_of (a0 a1 : IVec S16384 32) (a2 a3 : FVec F S1000000x32 .f32) (a4 : FVec F S32x32 .f32) (a5 : FVec F S32 .f32) (a6 : FVec F S32x32 .f32) (a7 : FVec F S32 .f32)
    (h : Cert.Pre_ids_in_tables.fn (F := F) a0 a1 a2 a3 a4 a5 a6 a7 = fun _ => 1#1) : Row a0 ∧ Row a1 := by
  have key : ∀ i, (a0 i).toNat < 1000000 ∧ (a1 i).toNat < 1000000 := fun i => by
    have e := congrFun h i
    change IntOp.andi (IntOp.andi (IntOp.andi (IntOp.cmpi .sge (a0 i) 0#32) (IntOp.cmpi .slt (a0 i) 1000000#32)) (IntOp.cmpi .sge (a1 i) 0#32)) (IntOp.cmpi .slt (a1 i) 1000000#32) = 1#1 at e
    simp only [IntOp.cmpi, andi_ofBool, ofBool_eq_one, Bool.and_eq_true, BitVec.sle_eq_decide, BitVec.slt_eq_decide, decide_eq_true_eq, BitVec.toInt_eq_toNat_cond, BitVec.toNat_ofNat, Nat.reducePow, Nat.reduceMod] at e
    omega
  exact ⟨fun i => (key i).1, fun i => (key i).2⟩

variable (m : (ℓ : Loc nD τ sig) → Buf (Elt F) ℓ) (ρ : Dev nD → PrngReg)

/-- Every index names a row of its table, on every device. -/
structure Rows : Prop where
  users : ∀ d, Row (V0 m d (dr main_arg0))
  items : ∀ d, Row (V0 m d (dr main_arg1))

attribute [local irreducible] ops0 ops1 ops2 ops3

theorem inTable (h : Rows m) : ∀ q d, InTable (IX m q d) := fun q d =>
  match q with
  | 0 => by
    change InTable (after ops0 (V0 m d) (dr main_v4))
    rw [read_users_list]; exact lineA_inTable (h.users d)
  | 1 => by
    change InTable (after ops0 (V0 m d) (dr main_v9))
    rw [read_items_list]; exact lineA_inTable (h.items d)

/-- The argument arrays. -/
abbrev args8 : List (Ref sig .tc) := [main_arg0, main_arg1, main_arg2, main_arg3, main_arg4, main_arg5, main_arg6, main_arg7]

/-- What neither the host nor the calls write is as the caller left it. -/
theorem V4_keep (d : Dev nD) f11 f14 f12 f15 (b : Ref sig .tc) (hb : b ∈ args8) : V4 m d f11 f14 f12 f15 (dr b) = V0 m d (dr b) := by
  have hk : b ∈ kept10 := by revert b; decide
  have ne (c : Ref sig .tc) (hc : c ∉ args8) : dr b ≠ dr c := fun e => hc (Proc.devRef_injective _ e ▸ hb)
  unfold V4
  rw [after_keeps _ ops2_keeps b hk, Function.update_of_ne (ne main_v15 (by decide)), Function.update_of_ne (ne main_v14 (by decide)), after_keeps _ ops1_keeps b hk]
  unfold V3
  rw [Function.update_of_ne (ne main_v12 (by decide)), Function.update_of_ne (ne main_v11 (by decide))]
  unfold V1
  rw [after_keeps _ ops0_keeps b hk]

theorem reach_args {d : Dev nD} {W : Valuation τ sig (Elt F)} (h : Reach m d W) (b : Ref sig .tc) (hb : b ∈ args8) : W (dr b) = V0 m d (dr b) := by
  obtain ⟨f11, f14, f12, f15, f26, -, -, -, rfl⟩ := h
  have hk : b ∈ kept10 := by revert b; decide
  unfold V5
  rw [after_keeps _ ops3_keeps b hk, Function.update_of_ne (fun e => absurd (Proc.devRef_injective _ e ▸ hb) (by decide)), V4_keep m d _ _ _ _ b hb]

/-- The arguments at the end of the run. -/
theorem args_kept {r : PUnit × MemSt nD τ sig (Elt F)} (h : QC m r) (d : Dev nD) (b : Ref sig .tc) (hb : b ∈ args8) :
    r.2.mem ((d.tc : Thread nD τ).loc b) = m ((d.tc : Thread nD τ).loc b) := by
  obtain ⟨W, hW, hm⟩ := h.1 d
  have hs : dr b ∈ S2 := by
    have hall : ∀ b ∈ args8, (dr b).isScoped = false ∧ b ≠ main_v4 ∧ b ≠ main_v11 ∧ b ≠ main_v9 ∧ b ≠ main_v14 := by decide
    obtain ⟨h0, h1, h2, h3, h4⟩ := hall b hb
    exact mem_S2 b h0 h1 h2 h3 h4
  exact (hm b hs).trans (reach_args m hW b hb)

/-- The eight arguments of one device, unchanged. -/
abbrev Same8 (r : PUnit × MemSt nD τ sig (Elt F)) (d : Dev nD) : Prop :=
  r.2.mem ((d.tc : Thread nD τ).loc main_arg0) = m ((d.tc : Thread nD τ).loc main_arg0)
  ∧ r.2.mem ((d.tc : Thread nD τ).loc main_arg1) = m ((d.tc : Thread nD τ).loc main_arg1)
  ∧ r.2.mem ((d.tc : Thread nD τ).loc main_arg2) = m ((d.tc : Thread nD τ).loc main_arg2)
  ∧ r.2.mem ((d.tc : Thread nD τ).loc main_arg3) = m ((d.tc : Thread nD τ).loc main_arg3)
  ∧ r.2.mem ((d.tc : Thread nD τ).loc main_arg4) = m ((d.tc : Thread nD τ).loc main_arg4)
  ∧ r.2.mem ((d.tc : Thread nD τ).loc main_arg5) = m ((d.tc : Thread nD τ).loc main_arg5)
  ∧ r.2.mem ((d.tc : Thread nD τ).loc main_arg6) = m ((d.tc : Thread nD τ).loc main_arg6)
  ∧ r.2.mem ((d.tc : Thread nD τ).loc main_arg7) = m ((d.tc : Thread nD τ).loc main_arg7)

theorem same8 {r : PUnit × MemSt nD τ sig (Elt F)} (h : QC m r) (d : Dev nD) : Same8 m r d := by
  and_intros <;> exact args_kept m h d _ (by decide)

/-- The frame over any float values. -/
theorem frame_any (h : Rows m) : θ_run (Cert.KernelIdeal.defs (F := F)) (Cert.KernelIdeal.threads (F := F)) ⟨m, fun _ => 0, ρ⟩
    (fun r => (∀ d, Same8 m r d) ∧ r.2.sem = fun _ => 0) :=
  (θ_run (Cert.KernelIdeal.defs (F := F)) _ _).mono (fun _ hq => ⟨fun d => same8 m hq d, hq.2⟩) (run_main m ρ (inTable m h))

end

theorem rows_ideal {m : (ℓ : Loc nD τ sig) → Buf (Elt Ideal) ℓ} (hp : Cert.Pre_KernelIdeal m) : Rows m :=
  ⟨fun d => (rows_of _ _ _ _ _ _ _ _ (hp d)).1, fun d => (rows_of _ _ _ _ _ _ _ _ (hp d)).2⟩

theorem frame_ideal : Cert.quiescent_KernelIdeal := fun m g hp => frame_any m g (rows_ideal hp)

theorem frame_reference : Cert.quiescent_ReferenceIdeal := fun m g _ =>
  (θ_run (Cert.ReferenceIdeal.defs (F := Ideal)) _ _).mono (fun r h => ⟨fun d => (h d).2, sem_eq_zero_of_no_sems (by decide) r.2⟩)
    (Cert.ReferenceIdeal.Value.run m g)

end Cert.Proof.Run

end
-- ==== Proof.Same.lean ====
/-
  The kernel and its idealization are one text: their bodies, definitions and threads agree, over any float values.
-/
module

public import proofs.«01_k».proof.Proof.Gen.Kernel
public import proofs.«01_k».proof.Proof.Gen.KernelIdeal

@[expose] public section

noncomputable section

namespace Cert.Proof.Same

open Idealize.ShloMosaic

variable {F : FTy → Type} [FloatOps F]

set_option maxHeartbeats 20000000 in
/-- The bodies of the two programs agree, label by label on each kind of processor. -/
theorem bodies_same : Cert.Kernel.defs₀ (F := F) = Cert.KernelIdeal.defs₀ (F := F) := by
  funext p l a
  cases p with
  | tc => exact match l with | 0 => (rfl) | 1 => (rfl) | 2 => (rfl) | 3 => (rfl) | 4 => (rfl)
  | scVector c s => exact match l with | 0 => (rfl) | 1 => (rfl) | 2 => (rfl) | 3 => (rfl) | 4 => (rfl)
  | scScalar c => exact match l with | 0 => (rfl) | 1 => (rfl) | 2 => (rfl) | 3 => (rfl) | 4 => (rfl)

set_option maxHeartbeats 20000000 in
/-- Their definitions agree. -/
theorem defs_same : Cert.Kernel.defs (F := F) = Cert.KernelIdeal.defs (F := F) :=
  congrArg (fun d => (Cert.KernelIdeal.sc (F := F)).defs (Pipeline.defs Cert.KernelIdeal.pcfgs d)) bodies_same

set_option maxHeartbeats 20000000 in
/-- Their main programs agree. -/
theorem main_same : Cert.Kernel.main (F := F) = Cert.KernelIdeal.main (F := F) := (rfl)

set_option maxHeartbeats 20000000 in
/-- Their threads agree. -/
theorem threads_same : Cert.Kernel.threads (F := F) = Cert.KernelIdeal.threads (F := F) :=
  congrArg (fun p => (Cert.KernelIdeal.sc (F := F)).threads p) main_same

end Cert.Proof.Same

end
-- ==== Proof.FrameKernel.lean ====
/-
  The kernel's own frame: its program is the same text, so the run over any float values is its run.
-/
module

public import proofs.«01_k».proof.Proof.Frames
public import proofs.«01_k».proof.Proof.Same

@[expose] public section

noncomputable section

namespace Cert.Proof.Run

open Idealize.ShloMosaic Idealize.SL.Sem

set_option maxHeartbeats 8000000 in
theorem frame_kernel : Cert.quiescent_Kernel := fun m g hp => by
  have key : ∀ D T, D = Cert.KernelIdeal.defs (F := Bits) → T = Cert.KernelIdeal.threads (F := Bits) →
      θ_run D T ⟨m, fun _ => 0, g⟩ (fun r => (∀ d, Same8 m r d) ∧ r.2.sem = fun _ => 0) := by
    intro D T hD hT
    subst hD hT
    exact frame_any (F := Bits) m g ⟨fun d => (rows_of _ _ _ _ _ _ _ _ (hp d)).1, fun d => (rows_of _ _ _ _ _ _ _ _ (hp d)).2⟩
  exact key _ _ Same.defs_same Same.threads_same

end Cert.Proof.Run

end
-- ==== Proof.PackValue.lean ====
/-
  What a packing block leaves, read at an element: four quarters of the block side by side.
-/
module

public import proofs.«01_k».proof.Proof.Kernels
public import Idealize.ShloMosaic.Lib.Pointwise

@[expose] public section

noncomputable section

namespace Cert.Proof.Run

open Cert.KernelIdeal Cert.KernelIdeal.Gen
open Idealize.ShloMosaic

/-- A comparison as a float: one or zero. -/
theorem mask_eq (a b : BitVec 32) :
    (FloatOps.sitofp .f32 (BitVec.setWidth 32 (IntOp.cmpi .eq a b)) : Ideal .f32) = if a = b then (1 : EReal) else 0 := by
  by_cases h : a = b
  · rw [if_pos h, IntOp.cmpi_eq.mpr h]
    change (((1#32 : BitVec 32).toInt : ℝ) : EReal) = 1
    rw [show (1#32 : BitVec 32).toInt = 1 by decide]; norm_num
  · have h0 : IntOp.cmpi .eq a b = 0#1 := by
      have := mt IntOp.cmpi_eq.mp h
      revert this
      generalize IntOp.cmpi .eq a b = c
      revert c; decide
    rw [if_neg h, h0]
    change (((0#32 : BitVec 32).toInt : ℝ) : EReal) = 0
    rw [show (0#32 : BitVec 32).toInt = 0 by decide]; norm_num

/-- A row times the shifted identity: the row's entry where the lane is in reach, zero elsewhere. -/
theorem pick (Y : Fin 32 → EReal) (l : Fin 128) (o : ℕ) (ho : o ≤ 96) :
    (∑ x : Fin 32, Y x * (FloatOps.sitofp .f32 (BitVec.setWidth 32 (IntOp.cmpi .eq (BitVec.ofNat 32 l.val) (IntOp.addi (BitVec.ofNat 32 x.val) (BitVec.ofNat 32 o)))) : Ideal .f32))
      = if h : o ≤ l.val ∧ l.val < o + 32 then Y ⟨l.val - o, by omega⟩ else 0 := by
  have key : ∀ x : Fin 32, (BitVec.ofNat 32 l.val = IntOp.addi (BitVec.ofNat 32 x.val) (BitVec.ofNat 32 o)) ↔ l.val = x.val + o := fun x => by
    have hl := l.isLt
    have hx := x.isLt
    constructor
    · intro e
      have := congrArg BitVec.toNat e
      change (BitVec.ofNat 32 l.val).toNat = (BitVec.ofNat 32 x.val + BitVec.ofNat 32 o).toNat at this
      rw [BitVec.toNat_add, BitVec.toNat_ofNat, BitVec.toNat_ofNat, BitVec.toNat_ofNat] at this
      omega
    · intro e
      rw [e]
      change _ = BitVec.ofNat 32 x.val + BitVec.ofNat 32 o
      rw [BitVec.ofNat_add]
  simp only [mask_eq, key]
  by_cases h : o ≤ l.val ∧ l.val < o + 32
  · rw [dif_pos h, Finset.sum_eq_single ⟨l.val - o, by omega⟩]
    · rw [if_pos (by change l.val = l.val - o + o; omega), mul_one]
    · intro b _ hb
      rw [if_neg (fun e => hb (Fin.ext (by change b.val = l.val - o; omega))), mul_zero]
    · exact fun h => absurd (Finset.mem_univ _) h
  · rw [dif_neg h]
    refine Finset.sum_eq_zero fun x _ => ?_
    rw [if_neg (fun e => h (by have := x.isLt; omega)), mul_zero]

/-- Lane `32 * k + d` of a packed line is entry `d` of column `8192 * k + r` of the block. -/
theorem packOf_val (X : S32x32768.Idx → Elt Ideal .f32) (r : Fin 8192) (k : Fin 4) (d : Fin 32) (l : Fin 128) (hl : l.val = 32 * k.val + d.val) :
    packOf X (ix2 r l) = X (ix2 d ⟨8192 * k.val + r.val, by omega⟩) := by
  have hd := d.isLt
  pointwise [packOf, k0_pay1, quarter]
  have p0 := pick (fun x => X ((Rect.unit (s := S32x32768) ![0, 0] ![32, 8192] inb_S32x32768_S32x8192_0_0).emb (ix2 x r))) l 0 (by decide)
  have p1 := pick (fun x => X ((Rect.unit (s := S32x32768) ![0, 8192] ![32, 8192] inb_S32x32768_S32x8192_0_8192).emb (ix2 x r))) l 32 (by decide)
  have p2 := pick (fun x => X ((Rect.unit (s := S32x32768) ![0, 16384] ![32, 8192] inb_S32x32768_S32x8192_0_16384).emb (ix2 x r))) l 64 (by decide)
  have p3 := pick (fun x => X ((Rect.unit (s := S32x32768) ![0, 24576] ![32, 8192] inb_S32x32768_S32x8192_0_24576).emb (ix2 x r))) l 96 (by decide)
  refine (congrArg₂ (· + ·) (congrArg₂ (· + ·) (congrArg₂ (· + ·) p0 p1) p2) p3).trans ?_
  have ix (o : ℕ) (h) (e : Fin 32) (he : e.val = d.val) (ho : o = 8192 * k.val) :
      X ((Rect.unit (s := S32x32768) ![0, o] ![32, 8192] h).emb (ix2 e r)) = X (ix2 d ⟨8192 * k.val + r.val, by omega⟩) := by
    refine congrArg X (funext fun a => Fin.ext ?_)
    match a with
    | 0 => rw [Rect.emb_apply]; change 0 + 1 * e.val = d.val; omega
    | 1 => rw [Rect.emb_apply]; change o + 1 * r.val = 8192 * k.val + r.val; omega
  have hk : k.val = 0 ∨ k.val = 1 ∨ k.val = 2 ∨ k.val = 3 := by omega
  rcases hk with hk | hk | hk | hk <;> rw [hk] at hl
  · rw [dif_pos (by omega), dif_neg (by omega), dif_neg (by omega), dif_neg (by omega), add_zero, add_zero, add_zero]
    exact ix 0 _ ⟨l.val - 0, by omega⟩ (show l.val - 0 = d.val by omega) (by omega)
  · rw [dif_neg (by omega), dif_pos (by omega), dif_neg (by omega), dif_neg (by omega), add_zero, add_zero, zero_add]
    exact ix 8192 _ ⟨l.val - 32, by omega⟩ (show l.val - 32 = d.val by omega) (by omega)
  · rw [dif_neg (by omega), dif_neg (by omega), dif_pos (by omega), dif_neg (by omega), add_zero, add_zero, zero_add]
    exact ix 16384 _ ⟨l.val - 64, by omega⟩ (show l.val - 64 = d.val by omega) (by omega)
  · rw [dif_neg (by omega), dif_neg (by omega), dif_neg (by omega), dif_pos (by omega), add_zero, zero_add, zero_add]
    exact ix 24576 _ ⟨l.val - 96, by omega⟩ (show l.val - 96 = d.val by omega) (by omega)

end Cert.Proof.Run

end
-- ==== Proof.Blocks.lean ====
/-
  The two packed tables, element by element: line `v / 32768 * 8192 + v % 8192` holds row `v` of its table in the
  quarter `v % 32768 / 8192`.
-/
module

public import proofs.«01_k».proof.Proof.Steps3
public import proofs.«01_k».proof.Proof.PackValue
public import Idealize.ShloMosaic.Lib.Pipeline.ValueKit.Geometry

@[expose] public section

noncomputable section

namespace Cert.Proof.Run

open Cert.KernelIdeal Cert.KernelIdeal.Gen
open Idealize.ShloMosaic Idealize.ShloMosaic.Pipeline Idealize.SL

/-- A property of every element a body may leave in an output's blocks is one of every element of the output. -/
theorem made_forall {F : FTy → Type} [FloatOps F] [∀ e, Nonempty (Elt F e)] (cfg : Pipeline.Cfg sig Λ₀) (c : Dev nD) (V : Valuation τ sig (Elt F)) (n : ℕ) (after)
    (w : Fin cfg.W) (hcov : (cfg.win w).Covers) (harr : (cfg.win w).arr.IsWhole) {G}
    (hG : (rdOf cfg c V n after).ArrAt w cfg.N G)
    (P : ((cfg.win w).arr.view.loc (c.tc : Thread nD τ)).2.ty.Idx → Elt F ((cfg.win w).arr.view.loc (c.tc : Thread nD τ)).2.ty.elt → Prop)
    (hP : ∀ t Y X, after w t Y X → ∀ y : ((cfg.win w).xblock (cfg.grid.coords t)).Idx,
      P (((cfg.win w).blk t).view.emb y)
        (_root_.cast (congrArg (Elt F) ((cfg.win w).blk t).view.elt_eq.symm) (X ((cfg.win w).xinj (cfg.grid.coords t) y)))) (i) :
    P i (G i) := by
  obtain ⟨X, hX, hA⟩ := hG.exists_exact
  rw [hA (Function.update (fun _ _ _ => Classical.arbitrary _) w X) fun u _ _ => by rw [Function.update_self]]
  refine Dat.arrAt_forall_of_covers _ w P hcov (fun t hf y => ?_) i harr
  rw [RDat.withAfter_after, Function.update_self]
  obtain ⟨Y, -, h⟩ := hX t t.isLt hf
  exact hP t Y _ h y

/-- What a fetch leaves at an element it moves. -/
theorem staged_at {F : FTy → Type} [FloatOps F] (cfg : Pipeline.Cfg sig Λ₀) (V : Valuation τ sig (Elt F)) (w : Fin cfg.W) (t : Fin cfg.N) (X) (h : Staged cfg V w t X)
    (y : ((cfg.win w).xblock (cfg.grid.coords t)).Idx) :
    X ((cfg.win w).xinj (cfg.grid.coords t) y)
      = ((cfg.win w).blk t).view.read (Elt F) (V (Proc.devRef .tc (cfg.win w).arr.view.ref)) y := by
  obtain ⟨d, rfl⟩ := h
  exact Window.fill_xinj _ _ _ _ _

/-- The line of a row in its packed table. -/
def lineOf (v : Fin 1000000) : Fin 253952 := ⟨v.val / 32768 * 8192 + v.val % 8192, by omega⟩
/-- The lane of a row's entry in its line. -/
def laneOf (v : Fin 1000000) (e : Fin 32) : Fin 128 := ⟨32 * (v.val % 32768 / 8192) + e.val, by omega⟩

theorem place (v t r : ℕ) (hr : r < 8192) (h0 : t * 8192 + r = v / 32768 * 8192 + v % 8192) :
    t * 32768 + (8192 * (v % 32768 / 8192) + r) = v := by
  rw [← Nat.mod_mod_of_dvd v (by norm_num : (8192 : ℕ) ∣ 32768)] at h0
  have h1 := Nat.div_add_mod v 32768
  have h2 := Nat.div_add_mod (v % 32768) 8192
  have h3 := Nat.mod_lt (v % 32768) (by norm_num : 0 < 8192)
  generalize v % 32768 % 8192 = u at *
  generalize v % 32768 / 8192 = k at *
  generalize v % 32768 = s at *
  generalize v / 32768 = q at *
  have : t = q := by omega
  subst this
  rw [Nat.add_left_cancel h0, h2, Nat.mul_comm, h1]

/-- An element of a packed line whose block's columns are `T`'s: the row's entry. -/
theorem packed_at (T : S32x1000000.Idx → Elt Ideal .f32) (Z : S32x32768.Idx → Elt Ideal .f32) (t : ℕ)
    (hZ : ∀ (e : Fin 32) (j : Fin 32768) (v : Fin 1000000), t * 32768 + j.val = v.val → Z (ix2 e j) = T (ix2 e v))
    (r : Fin 8192) (l : Fin 128) (v : Fin 1000000) (e : Fin 32) (h0 : t * 8192 + r.val = (lineOf v).val) (h1 : l.val = (laneOf v e).val) :
    packOf Z (ix2 r l) = T (ix2 e v) := by
  have hv := v.isLt
  have hr := r.isLt
  exact (packOf_val Z r ⟨v.val % 32768 / 8192, by omega⟩ e l h1).trans (hZ e _ v (place _ _ _ hr h0))

theorem idx0_0 : ∀ t : Fin grid0.N, win0_0.index t = ![0, t.val] := by decide +kernel
theorem idx0_1 : ∀ t : Fin grid0.N, win0_1.index t = ![t.val, 0] := by decide +kernel
theorem xs0_0 : ∀ t : Fin grid0.N, win0_0.xsize (grid0.coords t) 0 = 32 ∧ win0_0.xsize (grid0.coords t) 1 = min 32768 (1000000 - 32768 * t.val) := by decide +kernel
theorem cov0 : win0_1.Covers := by decide +kernel
theorem idx2_0 : ∀ t : Fin grid2.N, win2_0.index t = ![0, t.val] := by decide +kernel
theorem idx2_1 : ∀ t : Fin grid2.N, win2_1.index t = ![t.val, 0] := by decide +kernel
theorem xs2_0 : ∀ t : Fin grid2.N, win2_0.xsize (grid2.coords t) 0 = 32 ∧ win2_0.xsize (grid2.coords t) 1 = min 32768 (1000000 - 32768 * t.val) := by decide +kernel
theorem cov2 : win2_1.Covers := by decide +kernel

/-- A fetched block of the users' table: its columns inside the table are the table's. -/
theorem staged0_at (V : Valuation τ sig (Elt Ideal)) (t : Fin cfg0.N) (Z) (hZ : Staged cfg0 V 0 t Z) (e : Fin 32) (j : Fin 32768) (v : Fin 1000000)
    (h : t.val * 32768 + j.val = v.val) : Z (ix2 e j) = (V (Proc.devRef .tc main_v10) : S32x1000000.Idx → Elt Ideal .f32) (ix2 e v) := by
  have he := e.isLt
  have hv := v.isLt
  have hj := j.isLt
  have hin : ∀ a, ((ix2 e j : S32x32768.Idx) a).val < win0_0.xsize (grid0.coords t) a := fun a => by
    match a with
    | 0 => rw [(xs0_0 t).1]; exact he
    | 1 => rw [(xs0_0 t).2]; change j.val < _; omega
  refine (staged_at cfg0 V 0 t Z hZ (fun a => ⟨_, hin a⟩)).trans ?_
  blk_simp
  refine congrArg (V (Proc.devRef .tc main_v10)) (funext fun a => Fin.ext ?_)
  match a with
  | 0 => blk_simp [idx0_0]
  | 1 => blk_simp [idx0_0]; exact h

/-- The same of the items' table. -/
theorem staged2_at (V : Valuation τ sig (Elt Ideal)) (t : Fin cfg2.N) (Z) (hZ : Staged cfg2 V 0 t Z) (e : Fin 32) (j : Fin 32768) (v : Fin 1000000)
    (h : t.val * 32768 + j.val = v.val) : Z (ix2 e j) = (V (Proc.devRef .tc main_v13) : S32x1000000.Idx → Elt Ideal .f32) (ix2 e v) := by
  have he := e.isLt
  have hv := v.isLt
  have hj := j.isLt
  have hin : ∀ a, ((ix2 e j : S32x32768.Idx) a).val < win2_0.xsize (grid2.coords t) a := fun a => by
    match a with
    | 0 => rw [(xs2_0 t).1]; exact he
    | 1 => rw [(xs2_0 t).2]; change j.val < _; omega
  refine (staged_at cfg2 V 0 t Z hZ (fun a => ⟨_, hin a⟩)).trans ?_
  blk_simp
  refine congrArg (V (Proc.devRef .tc main_v13)) (funext fun a => Fin.ext ?_)
  match a with
  | 0 => blk_simp [idx2_0]
  | 1 => blk_simp [idx2_0]; exact h

/-- The users' packed table holds entry `e` of row `v` at its line and lane. -/
theorem made0_at (V : Valuation τ sig (Elt Ideal)) (d : Dev nD) (f : S253952x128.Idx → Elt Ideal .f32) (h : Made0 V d f) (v : Fin 1000000) (e : Fin 32) :
    f (ix2 (lineOf v) (laneOf v e)) = (V (Proc.devRef .tc main_v10) : S32x1000000.Idx → Elt Ideal .f32) (ix2 e v) := by
  refine made_forall cfg0 d V 0 (after0 V) 1 cov0 (Memref.isWhole_whole _) h
    (fun i x => (i 0).val = (lineOf v).val → (i 1).val = (laneOf v e).val → x = (V (Proc.devRef .tc main_v10) : S32x1000000.Idx → Elt Ideal .f32) (ix2 e v))
    (fun t Y X hX y => ?_) (ix2 (lineOf v) (laneOf v e)) rfl rfl
  obtain ⟨Z, hZ, rfl⟩ := hX
  blk_simp [idx0_1]
  intro h0 h1
  obtain ⟨r, l, rfl⟩ : ∃ (r : Fin 8192) (l : Fin 128), y = ix2 r l := ⟨y 0, y 1, eq_ix2 y⟩
  exact packed_at _ Z t.val (staged0_at V t Z hZ) r l v e h0 h1

/-- The items' packed table holds entry `e` of row `v` at its line and lane. -/
theorem made2_at (V : Valuation τ sig (Elt Ideal)) (d : Dev nD) (f : S253952x128.Idx → Elt Ideal .f32) (h : Made2 V d f) (v : Fin 1000000) (e : Fin 32) :
    f (ix2 (lineOf v) (laneOf v e)) = (V (Proc.devRef .tc main_v13) : S32x1000000.Idx → Elt Ideal .f32) (ix2 e v) := by
  refine made_forall cfg2 d V 1 (after2 V) 1 cov2 (Memref.isWhole_whole _) h
    (fun i x => (i 0).val = (lineOf v).val → (i 1).val = (laneOf v e).val → x = (V (Proc.devRef .tc main_v13) : S32x1000000.Idx → Elt Ideal .f32) (ix2 e v))
    (fun t Y X hX y => ?_) (ix2 (lineOf v) (laneOf v e)) rfl rfl
  obtain ⟨Z, hZ, rfl⟩ := hX
  blk_simp [idx2_1]
  intro h0 h1
  obtain ⟨r, l, rfl⟩ : ∃ (r : Fin 8192) (l : Fin 128), y = ix2 r l := ⟨y 0, y 1, eq_ix2 y⟩
  exact packed_at _ Z t.val (staged2_at V t Z hZ) r l v e h0 h1

end Cert.Proof.Run

end
-- ==== Proof.DenseValue.lean ====
/-
  What a dense block computes, read at an element: the phase picks a quarter of the gathered line, each tower is a layer
  cut off below at zero, and the two are multiplied and summed.
-/
module

public import proofs.«01_k».proof.Proof.PackValue

@[expose] public section

noncomputable section

namespace Cert.Proof.Run

open Cert.KernelIdeal Cert.KernelIdeal.Gen
open Idealize.ShloMosaic

/-- Four quarters of a line, each times whether it is the one of the phase: the phase's quarter. -/
theorem phase_sum (x : Fin 128 → EReal) (p : BitVec 32) (q : Fin 4) (hq : p = BitVec.ofNat 32 q.val) (e : Fin 32)
    (h0 : e.val < 128) (h1 : 32 + e.val < 128) (h2 : 64 + e.val < 128) (h3 : 96 + e.val < 128) (h : 32 * q.val + e.val < 128) :
    x ⟨e.val, h0⟩ * (FloatOps.sitofp .f32 (BitVec.setWidth 32 (IntOp.cmpi .eq p 0#32)) : Ideal .f32)
        + x ⟨32 + e.val, h1⟩ * (FloatOps.sitofp .f32 (BitVec.setWidth 32 (IntOp.cmpi .eq p 1#32)) : Ideal .f32)
        + x ⟨64 + e.val, h2⟩ * (FloatOps.sitofp .f32 (BitVec.setWidth 32 (IntOp.cmpi .eq p 2#32)) : Ideal .f32)
        + x ⟨96 + e.val, h3⟩ * (FloatOps.sitofp .f32 (BitVec.setWidth 32 (IntOp.cmpi .eq p 3#32)) : Ideal .f32)
      = x ⟨32 * q.val + e.val, h⟩ := by
  rw [mask_eq, mask_eq, mask_eq, mask_eq, hq]
  have ix (o : ℕ) (ho : o + e.val < 128) (hk : o = 32 * q.val) : x ⟨o + e.val, ho⟩ = x ⟨32 * q.val + e.val, h⟩ :=
    congrArg x (Fin.ext (show o + e.val = 32 * q.val + e.val by omega))
  have ix0 (hk : 0 = 32 * q.val) : x ⟨e.val, h0⟩ = x ⟨32 * q.val + e.val, h⟩ := congrArg x (Fin.ext (show e.val = 32 * q.val + e.val by omega))
  rcases (by omega : q.val = 0 ∨ q.val = 1 ∨ q.val = 2 ∨ q.val = 3) with hk | hk | hk | hk
  · rw [← ix0 (by omega)]; simp [hk]
  · rw [← ix 32 h1 (by omega)]; simp [hk]
  · rw [← ix 64 h2 (by omega)]; simp [hk]
  · rw [← ix 96 h3 (by omega)]; simp [hk]

/-- One tower at one entry: a row times a column, the bias added, cut off below at zero. -/
def tower (x : Fin 32 → EReal) (W : Fin 32 → Fin 32 → EReal) (B : Fin 32 → EReal) (j : Fin 32) : EReal := max ((∑ k, x k * W k j) + B j) 0

/-- The result of one pair of rows. -/
def pairing (x y : Fin 32 → EReal) (Wu : Fin 32 → Fin 32 → EReal) (bu : Fin 32 → EReal) (Wi : Fin 32 → Fin 32 → EReal) (bi : Fin 32 → EReal) : EReal :=
  ∑ j, tower x Wu bu j * tower y Wi bi j

theorem denseOf_val (U I : S2048x128.Idx → Elt Ideal .f32) (pu pi : S2048x1.Idx → Elt Ideal .i32) (Wu : S32x32.Idx → Elt Ideal .f32) (bu : S1x32.Idx → Elt Ideal .f32)
    (Wi : S32x32.Idx → Elt Ideal .f32) (bi : S1x32.Idx → Elt Ideal .f32) (b : Fin 2048) (p q : Fin 4)
    (hp : pu (ix2 b 0) = BitVec.ofNat 32 p.val) (hq : pi (ix2 b 0) = BitVec.ofNat 32 q.val) :
    denseOf U I pu pi Wu bu Wi bi (ix2 b 0)
      = pairing (fun k => U (ix2 b ⟨32 * p.val + k.val, by omega⟩)) (fun k => I (ix2 b ⟨32 * q.val + k.val, by omega⟩))
          (fun k j => Wu (ix2 k j)) (fun j => bu (ix2 0 j)) (fun k j => Wi (ix2 k j)) (fun j => bi (ix2 0 j)) := by
  pointwise [denseOf, k4_pay1, k4_pay2, k4_pay3, k4_pay4, k4_pay5, k4_pay6, k4_pay7, k4_pay8]
  unfold pairing tower
  refine Finset.sum_congr rfl fun j _ => congrArg₂ (· * ·) (congrArg (max · 0) (congrArg (· + bu (ix2 0 j)) (Finset.sum_congr rfl fun k _ => congrArg (· * Wu (ix2 k j)) ?_)))
    (congrArg (max · 0) (congrArg (· + bi (ix2 0 j)) (Finset.sum_congr rfl fun k _ => congrArg (· * Wi (ix2 k j)) ?_)))
  · exact phase_sum (fun l => U (ix2 b l)) _ p hp k _ _ _ _ _
  · exact phase_sum (fun l => I (ix2 b l)) _ q hq k _ _ _ _ _

end Cert.Proof.Run

end
-- ==== Proof.DenseBlocks.lean ====
/-
  The dense call's result, element by element: what a block computes of the two gathered lines, the phases and the layers.
-/
module

public import proofs.«01_k».proof.Proof.Blocks
public import proofs.«01_k».proof.Proof.DenseValue
public import Idealize.ShloMosaic.Lib.Pipeline.ValueKit.Geometry

@[expose] public section

noncomputable section

namespace Cert.Proof.Run

open Cert.KernelIdeal Cert.KernelIdeal.Gen
open Idealize.ShloMosaic Idealize.ShloMosaic.Pipeline Idealize.SL

theorem cov4 : win4_8.Covers := by decide +kernel
theorem idx4_0 : ∀ t : Fin grid4.N, win4_0.index t = ![t.val, 0] := by decide +kernel
theorem idx4_1 : ∀ t : Fin grid4.N, win4_1.index t = ![t.val, 0] := by decide +kernel
theorem idx4_2 : ∀ t : Fin grid4.N, win4_2.index t = ![t.val, 0] := by decide +kernel
theorem idx4_3 : ∀ t : Fin grid4.N, win4_3.index t = ![t.val, 0] := by decide +kernel
theorem idx4_4 : ∀ t : Fin grid4.N, win4_4.index t = ![0, 0] := by decide +kernel
theorem idx4_5 : ∀ t : Fin grid4.N, win4_5.index t = ![0, 0] := by decide +kernel
theorem idx4_6 : ∀ t : Fin grid4.N, win4_6.index t = ![0, 0] := by decide +kernel
theorem idx4_7 : ∀ t : Fin grid4.N, win4_7.index t = ![0, 0] := by decide +kernel
theorem idx4_8 : ∀ t : Fin grid4.N, win4_8.index t = ![t.val, 0] := by decide +kernel

/-- Entry `r` of the dense call's result. -/
theorem made4_at (V : Valuation τ sig (Elt Ideal)) (d : Dev nD) (f : S16384x1.Idx → Elt Ideal .f32) (h : Made4 V d f) (r : Fin 16384) (p q : Fin 4)
    (hp : (V (Proc.devRef .tc main_v18) : S16384x1.Idx → BitVec 32) (ix2 r 0) = BitVec.ofNat 32 p.val)
    (hq : (V (Proc.devRef .tc main_v21) : S16384x1.Idx → BitVec 32) (ix2 r 0) = BitVec.ofNat 32 q.val) :
    f (ix2 r 0) = pairing (fun k => (V (Proc.devRef .tc main_v12) : S16384x128.Idx → Elt Ideal .f32) (ix2 r ⟨32 * p.val + k.val, by omega⟩))
      (fun k => (V (Proc.devRef .tc main_v15) : S16384x128.Idx → Elt Ideal .f32) (ix2 r ⟨32 * q.val + k.val, by omega⟩))
      (fun k j => (V (Proc.devRef .tc main_v22) : S32x32.Idx → Elt Ideal .f32) (ix2 k j)) (fun j => (V (Proc.devRef .tc main_v23) : S1x32.Idx → Elt Ideal .f32) (ix2 0 j))
      (fun k j => (V (Proc.devRef .tc main_v24) : S32x32.Idx → Elt Ideal .f32) (ix2 k j)) (fun j => (V (Proc.devRef .tc main_v25) : S1x32.Idx → Elt Ideal .f32) (ix2 0 j)) := by
  refine made_forall cfg4 d V 2 (after4 V) 8 cov4 (Memref.isWhole_whole _) h
    (fun i x => (i 0).val = r.val → x = pairing (fun k => (V (Proc.devRef .tc main_v12) : S16384x128.Idx → Elt Ideal .f32) (ix2 r ⟨32 * p.val + k.val, by omega⟩))
      (fun k => (V (Proc.devRef .tc main_v15) : S16384x128.Idx → Elt Ideal .f32) (ix2 r ⟨32 * q.val + k.val, by omega⟩))
      (fun k j => (V (Proc.devRef .tc main_v22) : S32x32.Idx → Elt Ideal .f32) (ix2 k j)) (fun j => (V (Proc.devRef .tc main_v23) : S1x32.Idx → Elt Ideal .f32) (ix2 0 j))
      (fun k j => (V (Proc.devRef .tc main_v24) : S32x32.Idx → Elt Ideal .f32) (ix2 k j)) (fun j => (V (Proc.devRef .tc main_v25) : S1x32.Idx → Elt Ideal .f32) (ix2 0 j)))
    (fun t Y X hX y => ?_) (ix2 r 0) rfl
  obtain ⟨U, I, pu, pi, Wu, bu, Wi, bi, hU, hI, hpu, hpi, hWu, hbu, hWi, hbi, rfl⟩ := hX
  blk_simp [idx4_8]
  intro h0
  obtain ⟨b, z, rfl⟩ : ∃ (b : Fin 2048) (z : Fin 1), y = ix2 b z := ⟨y 0, y 1, eq_ix2 y⟩
  obtain rfl : z = 0 := Subsingleton.elim _ _
  change t.val * 2048 + b.val = r.val at h0
  have eU (l : Fin 128) : U (ix2 b l) = (V (Proc.devRef .tc main_v12) : S16384x128.Idx → Elt Ideal .f32) (ix2 r l) := by
    refine (staged_at cfg4 V 0 t U hU (ix2 b l)).trans ?_
    blk_simp
    refine congrArg (V (Proc.devRef .tc main_v12)) (funext fun a => Fin.ext ?_)
    match a with
    | 0 => blk_simp [idx4_0]; exact h0
    | 1 => blk_simp [idx4_0]
  have eI (l : Fin 128) : I (ix2 b l) = (V (Proc.devRef .tc main_v15) : S16384x128.Idx → Elt Ideal .f32) (ix2 r l) := by
    refine (staged_at cfg4 V 1 t I hI (ix2 b l)).trans ?_
    blk_simp
    refine congrArg (V (Proc.devRef .tc main_v15)) (funext fun a => Fin.ext ?_)
    match a with
    | 0 => blk_simp [idx4_1]; exact h0
    | 1 => blk_simp [idx4_1]
  have eu : pu (ix2 b 0) = BitVec.ofNat 32 p.val := by
    refine ((staged_at cfg4 V 2 t pu hpu (ix2 b 0)).trans ?_).trans hp
    blk_simp
    refine congrArg (V (Proc.devRef .tc main_v18)) (funext fun a => Fin.ext ?_)
    match a with
    | 0 => blk_simp [idx4_2]; exact h0
    | 1 => blk_simp [idx4_2]
  have ei : pi (ix2 b 0) = BitVec.ofNat 32 q.val := by
    refine ((staged_at cfg4 V 3 t pi hpi (ix2 b 0)).trans ?_).trans hq
    blk_simp
    refine congrArg (V (Proc.devRef .tc main_v21)) (funext fun a => Fin.ext ?_)
    match a with
    | 0 => blk_simp [idx4_3]; exact h0
    | 1 => blk_simp [idx4_3]
  have eWu (k j : Fin 32) : Wu (ix2 k j) = (V (Proc.devRef .tc main_v22) : S32x32.Idx → Elt Ideal .f32) (ix2 k j) := by
    refine (staged_at cfg4 V 4 t Wu hWu (ix2 k j)).trans ?_
    blk_simp
    refine congrArg (V (Proc.devRef .tc main_v22)) (funext fun a => Fin.ext ?_)
    match a with
    | 0 => blk_simp [idx4_4]
    | 1 => blk_simp [idx4_4]
  have ebu (j : Fin 32) : bu (ix2 0 j) = (V (Proc.devRef .tc main_v23) : S1x32.Idx → Elt Ideal .f32) (ix2 0 j) := by
    refine (staged_at cfg4 V 5 t bu hbu (ix2 0 j)).trans ?_
    blk_simp
    refine congrArg (V (Proc.devRef .tc main_v23)) (funext fun a => Fin.ext ?_)
    match a with
    | 0 => blk_simp [idx4_5]
    | 1 => blk_simp [idx4_5]
  have eWi (k j : Fin 32) : Wi (ix2 k j) = (V (Proc.devRef .tc main_v24) : S32x32.Idx → Elt Ideal .f32) (ix2 k j) := by
    refine (staged_at cfg4 V 6 t Wi hWi (ix2 k j)).trans ?_
    blk_simp
    refine congrArg (V (Proc.devRef .tc main_v24)) (funext fun a => Fin.ext ?_)
    match a with
    | 0 => blk_simp [idx4_6]
    | 1 => blk_simp [idx4_6]
  have ebi (j : Fin 32) : bi (ix2 0 j) = (V (Proc.devRef .tc main_v25) : S1x32.Idx → Elt Ideal .f32) (ix2 0 j) := by
    refine (staged_at cfg4 V 7 t bi hbi (ix2 0 j)).trans ?_
    blk_simp
    refine congrArg (V (Proc.devRef .tc main_v25)) (funext fun a => Fin.ext ?_)
    match a with
    | 0 => blk_simp [idx4_7]
    | 1 => blk_simp [idx4_7]
  refine (denseOf_val U I pu pi Wu bu Wi bi b p q eu ei).trans ?_
  simp only [eU, eI, eWu, ebu, eWi, ebi]

end Cert.Proof.Run

end
-- ==== Proof.Result.lean ====
/-
  The kernel's result, element by element, from its arguments.
-/
module

public import proofs.«01_k».proof.Proof.Frames
public import proofs.«01_k».proof.Proof.DenseBlocks

@[expose] public section

noncomputable section

namespace Cert.Proof.Run

open Cert.KernelIdeal Cert.KernelIdeal.Gen
open Idealize.ShloMosaic Idealize.ShloMosaic.StableHlo Idealize.SL
open Cert.Proof.Host

theorem row128_eq (r : Fin 16384) (j : Fin 128) : row128 r j = ix2 r j := funext fun a => match a with | 0 => rfl | 1 => rfl
theorem pack128_eq (r : Fin 253952) (j : Fin 128) : pack128 r j = ix2 r j := funext fun a => match a with | 0 => rfl | 1 => rfl
theorem idx1_eq (r : Fin 16384) : idx1 r = ix1 r := funext fun a => match a with | 0 => rfl

/-- The row that entry `r` of a list names. -/
def rowAt {x : IVec S16384 32} (hx : Row x) (r : Fin 16384) : Fin 1000000 := ⟨(x (ix1 r)).toNat, hx _⟩

/-- A gathered line holds the row that the list names, in the row's quarter. -/
theorem gathered_at {Pk : (S253952x128.Idx → Elt Ideal .f32) → Prop} {x : IVec S16384 32} (hx : Row x) {T : S32x1000000.Idx → Elt Ideal .f32}
    {f : S16384x128.Idx → Elt Ideal .f32} (hG : ∀ w, Gathered Pk (lineA x) (oSet w) f)
    (hT : ∀ tbl, Pk tbl → ∀ v e, tbl (ix2 (lineOf v) (laneOf v e)) = T (ix2 e v)) (r : Fin 16384) (e : Fin 32) :
    f (ix2 r (laneOf (rowAt hx r) e)) = T (ix2 e (rowAt hx r)) := by
  have hl := fun tbl ht => hT tbl ht (rowAt hx r) e
  generalize laneOf (rowAt hx r) e = j at hl ⊢
  have hin : row128 r j ∈ Finset.univ.biUnion oSet := by rw [parts_cover]; exact Finset.mem_univ _
  obtain ⟨w, -, hw⟩ := Finset.mem_biUnion.mp hin
  obtain ⟨tbl, hP, hf⟩ := hG w
  have h := hf r _ hw (lineA_inTable hx _)
  rw [row128_eq, pack128_eq] at h
  rw [h, ← hl tbl hP]
  refine congrArg (fun l => tbl (ix2 l _)) (Fin.ext ?_)
  change (lineA x (idx1 r)).toNat = _
  rw [lineA_val hx, idx1_eq]; rfl

/-- The quarter of a row. -/
def quarterOf (v : Fin 1000000) : Fin 4 := ⟨v.val % 32768 / 8192, by omega⟩

/-- The phase the dense call reads is the quarter of the row that the list names. -/
theorem group_at {x : IVec S16384 32} (hx : Row x) (r : Fin 16384) :
    shapeCast S16384x1 (groupA x) shapeCasts_S16384_S16384x1 (ix2 r 0) = BitVec.ofNat 32 (quarterOf (rowAt hx r)).val := by
  have h := (quarterOf (rowAt hx r)).isLt
  have e : shapeCast S16384x1 (groupA x) shapeCasts_S16384_S16384x1 (ix2 r 0) = groupA x (ix1 r) := by
    generalize groupA x = g
    pointwise
  rw [e]
  refine BitVec.eq_of_toNat_eq ?_
  rw [groupA_val hx, BitVec.toNat_ofNat]
  exact (Nat.mod_eq_of_lt (lt_trans h (by norm_num))).symm

variable (m : (ℓ : Loc nD τ sig) → Buf (Elt Ideal) ℓ)

attribute [local irreducible] ops0 ops1 ops2 ops3

/-- The buffers the last stretch before the dense call starts from. -/
def VB (d : Dev nD) (f11 f14 : S253952x128.Idx → Elt Ideal .f32) (f12 f15 : S16384x128.Idx → Elt Ideal .f32) : Valuation τ sig (Elt Ideal) :=
  Function.update (Function.update (after ops1 (V3 m d f11 f12)) (dr main_v14) f14) (dr main_v15) f15

theorem VB_keep (d : Dev nD) (f11 f14 f12 f15) (b : Ref sig .tc) (hb : b ∈ args8) : VB m d f11 f14 f12 f15 (dr b) = V0 m d (dr b) :=
  (after_keeps (VB m d f11 f14 f12 f15) ops2_keeps b (by revert b; decide)).symm.trans (V4_keep m d f11 f14 f12 f15 b hb)

theorem V4_users (d : Dev nD) (f11 f14 f12 f15) : V4 m d f11 f14 f12 f15 (dr main_v12) = f12 := by
  unfold V4
  rw [after_keeps _ ops2_keeps main_v12 (by decide), Function.update_of_ne (fun e => absurd (Proc.devRef_injective _ e) (by decide)),
    Function.update_of_ne (fun e => absurd (Proc.devRef_injective _ e) (by decide)), after_keeps _ ops1_keeps main_v12 (by decide)]
  unfold V3
  rw [Function.update_self]

theorem V4_items (d : Dev nD) (f11 f14 f12 f15) : V4 m d f11 f14 f12 f15 (dr main_v15) = f15 := by
  unfold V4
  rw [after_keeps _ ops2_keeps main_v15 (by decide), Function.update_self]

/-- What the packing calls read is the tables transposed. -/
theorem users_in (d : Dev nD) (e : Fin 32) (v : Fin 1000000) :
    (V1 m d (dr main_v10) : S32x1000000.Idx → Elt Ideal .f32) (ix2 e v) = (V0 m d (dr main_arg2) : S1000000x32.Idx → Elt Ideal .f32) (ix2 v e) := by
  unfold V1
  rw [read_users_table]
  generalize (V0 m d (dr main_arg2) : S1000000x32.Idx → Elt Ideal .f32) = T
  pointwise
theorem items_in' (d : Dev nD) (e : Fin 32) (v : Fin 1000000) :
    (V2 m d (dr main_v13) : S32x1000000.Idx → Elt Ideal .f32) (ix2 e v) = (V0 m d (dr main_arg3) : S1000000x32.Idx → Elt Ideal .f32) (ix2 v e) := by
  unfold V2
  rw [ops1_made]
  unfold V1
  rw [after_keeps _ ops0_keeps main_arg3 (by decide)]
  generalize (V0 m d (dr main_arg3) : S1000000x32.Idx → Elt Ideal .f32) = T
  pointwise

/-- The result, from the arguments. -/
theorem reach_val (hm : Rows m) {d : Dev nD} {W : Valuation τ sig (Elt Ideal)} (h : Reach m d W) (r : Fin 16384) :
    (W (dr main_v27) : S16384.Idx → Elt Ideal .f32) (ix1 r)
      = pairing (fun k => (V0 m d (dr main_arg2) : S1000000x32.Idx → Elt Ideal .f32) (ix2 (rowAt (hm.users d) r) k))
          (fun k => (V0 m d (dr main_arg3) : S1000000x32.Idx → Elt Ideal .f32) (ix2 (rowAt (hm.items d) r) k))
          (fun k j => (V0 m d (dr main_arg4) : S32x32.Idx → Elt Ideal .f32) (ix2 j k)) (fun j => (V0 m d (dr main_arg5) : S32.Idx → Elt Ideal .f32) (ix1 j))
          (fun k j => (V0 m d (dr main_arg6) : S32x32.Idx → Elt Ideal .f32) (ix2 j k)) (fun j => (V0 m d (dr main_arg7) : S32.Idx → Elt Ideal .f32) (ix1 j)) := by
  obtain ⟨f11, f14, f12, f15, f26, hG0, hG1, hM, rfl⟩ := h
  have hI0 : IX m 0 d = lineA (V0 m d (dr main_arg0)) := read_users_list (V0 m d)
  have hI1 : IX m 1 d = lineA (V0 m d (dr main_arg1)) := read_items_list (V0 m d)
  rw [hI0] at hG0
  rw [hI1] at hG1
  have e4 : V4 m d f11 f14 f12 f15 = after ops2 (VB m d f11 f14 f12 f15) := rfl
  have hp : (V4 m d f11 f14 f12 f15 (dr main_v18) : S16384x1.Idx → BitVec 32) (ix2 r 0) = BitVec.ofNat 32 (quarterOf (rowAt (hm.users d) r)).val := by
    rw [e4, read_users_group, VB_keep m d _ _ _ _ main_arg0 (by decide)]; exact group_at (hm.users d) r
  have hq : (V4 m d f11 f14 f12 f15 (dr main_v21) : S16384x1.Idx → BitVec 32) (ix2 r 0) = BitVec.ofNat 32 (quarterOf (rowAt (hm.items d) r)).val := by
    rw [e4, read_items_group, VB_keep m d _ _ _ _ main_arg1 (by decide)]; exact group_at (hm.items d) r
  have hf := made4_at (V4 m d f11 f14 f12 f15) d f26 hM r _ _ hp hq
  have hu (k : Fin 32) : (V4 m d f11 f14 f12 f15 (dr main_v12) : S16384x128.Idx → Elt Ideal .f32) (ix2 r ⟨32 * (quarterOf (rowAt (hm.users d) r)).val + k.val, by omega⟩)
      = (V0 m d (dr main_arg2) : S1000000x32.Idx → Elt Ideal .f32) (ix2 (rowAt (hm.users d) r) k) := by
    rw [V4_users]
    exact (gathered_at (hm.users d) hG0 (fun tbl ht => made0_at (V1 m d) d tbl ht) r k).trans (users_in m d k _)
  have hi (k : Fin 32) : (V4 m d f11 f14 f12 f15 (dr main_v15) : S16384x128.Idx → Elt Ideal .f32) (ix2 r ⟨32 * (quarterOf (rowAt (hm.items d) r)).val + k.val, by omega⟩)
      = (V0 m d (dr main_arg3) : S1000000x32.Idx → Elt Ideal .f32) (ix2 (rowAt (hm.items d) r) k) := by
    rw [V4_items]
    exact (gathered_at (hm.items d) hG1 (fun tbl ht => made2_at (V2 m d) d tbl ht) r k).trans (items_in' m d k _)
  have h22 (k j : Fin 32) : (V4 m d f11 f14 f12 f15 (dr main_v22) : S32x32.Idx → Elt Ideal .f32) (ix2 k j) = (V0 m d (dr main_arg4) : S32x32.Idx → Elt Ideal .f32) (ix2 j k) := by
    rw [e4, read_weight_users, VB_keep m d _ _ _ _ main_arg4 (by decide)]
    generalize (V0 m d (dr main_arg4) : S32x32.Idx → Elt Ideal .f32) = T
    pointwise
  have h24 (k j : Fin 32) : (V4 m d f11 f14 f12 f15 (dr main_v24) : S32x32.Idx → Elt Ideal .f32) (ix2 k j) = (V0 m d (dr main_arg6) : S32x32.Idx → Elt Ideal .f32) (ix2 j k) := by
    rw [e4, read_weight_items, VB_keep m d _ _ _ _ main_arg6 (by decide)]
    generalize (V0 m d (dr main_arg6) : S32x32.Idx → Elt Ideal .f32) = T
    pointwise
  have h23 (j : Fin 32) : (V4 m d f11 f14 f12 f15 (dr main_v23) : S1x32.Idx → Elt Ideal .f32) (ix2 0 j) = (V0 m d (dr main_arg5) : S32.Idx → Elt Ideal .f32) (ix1 j) := by
    rw [e4, read_bias_users, VB_keep m d _ _ _ _ main_arg5 (by decide)]
    generalize (V0 m d (dr main_arg5) : S32.Idx → Elt Ideal .f32) = T
    pointwise
  have h25 (j : Fin 32) : (V4 m d f11 f14 f12 f15 (dr main_v25) : S1x32.Idx → Elt Ideal .f32) (ix2 0 j) = (V0 m d (dr main_arg7) : S32.Idx → Elt Ideal .f32) (ix1 j) := by
    rw [e4, read_bias_items, VB_keep m d _ _ _ _ main_arg7 (by decide)]
    generalize (V0 m d (dr main_arg7) : S32.Idx → Elt Ideal .f32) = T
    pointwise
  have hout : (V5 m d f11 f14 f12 f15 f26 (dr main_v27) : S16384.Idx → Elt Ideal .f32) (ix1 r) = f26 (ix2 r 0) := by
    unfold V5
    rw [read_result, Function.update_self]
    pointwise
  rw [hout, hf]
  simp only [hu, hi, h22, h23, h24, h25]

end Cert.Proof.Run

end
-- ==== Proof.RefValue.lean ====
/-
  What the reference computes, read at an element.
-/
module

public import proofs.«01_k».proof.Proof.Gen.ReferenceIdeal.Run
public import proofs.«01_k».proof.Proof.DenseValue
public import Idealize.ShloMosaic.Lib.Routing.Ops

@[expose] public section

noncomputable section

namespace Cert.Proof.Ref

open Cert.ReferenceIdeal Cert.ReferenceIdeal.Gen Cert.ReferenceIdeal.Value
open Idealize.ShloMosaic

/-- The list's entries as the reference reads them: an entry below zero counts from the end. -/
def starts (a : IVec S16384 32) : IVec S16384x1 32 :=
  broadcastInDim S16384x1 ![0] bcast_S16384_S16384x1_0 (select (cmpi .slt a (broadcastInDim S16384 ![] bcast_S_S16384 (constantI S_ 32 0#32))) (addi a (broadcastInDim S16384 ![] bcast_S_S16384 (constantI S_ 32 1000000#32))) a)

/-- Whether an entry names a row of the table. -/
def inside (a : IVec S16384 32) : IVec S16384 1 :=
  Host.reduce IntOp.andi (andi (cmpi .sge (starts a) (broadcastInDim S16384x1 ![] bcast_S_S16384x1 (constantI S_ 32 0#32))) (cmpi .sle (starts a) (broadcastInDim S16384x1 ![0, 1] bcast_S1x1_S16384x1_0_1 (broadcastInDim S1x1 ![1] bcast_S1_S1x1_1 (constantI S1 32 999999#32))))) (constantI S_ 1 1#1) reducesTo_S16384x1_S16384_d1 h_S_

/-- The rows of a table that a list names, as the reference takes them: an entry outside the table gives a row of NaN. -/
def taken (a : IVec S16384 32) (T : FVec Ideal S1000000x32 .f32) : FVec Ideal S16384x32 .f32 :=
  select (broadcastInDim S16384x32 ![0] bcast_S16384_S16384x32_0 (inside a)) (Host.gather gather_S1000000x32_S16384x1_S16384x32_1_0_n_n_0_1_132 T (starts a)) (broadcastInDim S16384x32 ![] bcast_S_S16384x32 (constant S_ .f32 0x7FC00000#32))

/-- The reference's result of its arguments. -/
def outOf (a b : IVec S16384 32) (S T : FVec Ideal S1000000x32 .f32) (Wu : FVec Ideal S32x32 .f32) (bu : FVec Ideal S32 .f32)
    (Wi : FVec Ideal S32x32 .f32) (bi : FVec Ideal S32 .f32) : FVec Ideal S16384 .f32 :=
  Host.reduceAdd (mulf (maximumf (addf (Host.dotGeneral dot_S16384x32_S32x32_S16384x32_1_0_0_1_n_n none (taken a S) (transpose S32x32 [1, 0] Wu transposes_S32x32_S32x32_1_0)) (broadcastInDim S16384x32 ![0, 1] bcast_S1x32_S16384x32_0_1 (broadcastInDim S1x32 ![1] bcast_S32_S1x32_1 bu))) (broadcastInDim S16384x32 ![] bcast_S_S16384x32 (constant S_ .f32 0x00000000#32))) (maximumf (addf (Host.dotGeneral dot_S16384x32_S32x32_S16384x32_1_0_0_1_n_n none (taken b T) (transpose S32x32 [1, 0] Wi transposes_S32x32_S32x32_1_0)) (broadcastInDim S16384x32 ![0, 1] bcast_S1x32_S16384x32_0_1 (broadcastInDim S1x32 ![1] bcast_S32_S1x32_1 bi))) (broadcastInDim S16384x32 ![] bcast_S_S16384x32 (constant S_ .f32 0x00000000#32)))) (constant S_ .f32 0x00000000#32) reducesTo_S16384x32_S16384_d1 h_S_

set_option maxRecDepth 8192 in
theorem res_eq (m : (ℓ : Loc nD τ sig) → Buf (Elt Ideal) ℓ) (c : Dev nD) :
    res_main_v15 m c = outOf (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := (rfl)

/-- A word that is a small number, read signed. -/
theorem toInt_row (x : BitVec 32) (v : Fin 1000000) (h : x = BitVec.ofNat 32 v.val) : x.toInt = v.val := by
  have hv := v.isLt
  have hn : x.toNat = v.val := by rw [h, BitVec.toNat_ofNat]; exact Nat.mod_eq_of_lt (by omega)
  rw [BitVec.toInt_eq_toNat_of_lt (by omega), hn]

theorem starts_val (a : IVec S16384 32) (r : Fin 16384) (v : Fin 1000000) (hv : a (ix1 r) = BitVec.ofNat 32 v.val) :
    starts a (ix2 r 0) = BitVec.ofNat 32 v.val := by
  pointwise [starts]
  have hlt : IntOp.cmpi .slt (a (ix1 r)) 0#32 = 0#1 := by
    change BitVec.ofBool (decide ((a (ix1 r)).toInt < (0#32 : BitVec 32).toInt)) = 0#1
    rw [decide_eq_false (by rw [toInt_row _ v hv, show (0#32 : BitVec 32).toInt = 0 by decide]; omega)]; rfl
  rw [hlt]; exact hv

theorem inside_val (a : IVec S16384 32) (r : Fin 16384) (v : Fin 1000000) (hv : a (ix1 r) = BitVec.ofNat 32 v.val) : inside a (ix1 r) = 1#1 := by
  have h := v.isLt
  pointwise [inside]
  rw [show (Finset.univ : Finset (Fin 1)) = {0} from rfl, Finset.fold_singleton, starts_val a r v hv]
  have h1 : IntOp.cmpi .sge (BitVec.ofNat 32 v.val) 0#32 = 1#1 := by
    change BitVec.ofBool (decide ((0#32 : BitVec 32).toInt ≤ (BitVec.ofNat 32 v.val).toInt)) = 1#1
    rw [decide_eq_true (by rw [toInt_row _ v rfl, show (0#32 : BitVec 32).toInt = 0 by decide]; omega)]; rfl
  have h2 : IntOp.cmpi .sle (BitVec.ofNat 32 v.val) 999999#32 = 1#1 := by
    change BitVec.ofBool (decide ((BitVec.ofNat 32 v.val).toInt ≤ (999999#32 : BitVec 32).toInt)) = 1#1
    rw [decide_eq_true (by rw [toInt_row _ v rfl, show (999999#32 : BitVec 32).toInt = 999999 by decide]; omega)]; rfl
  rw [h1, h2]; rfl

/-- A list entry that names row `v` takes row `v`. -/
theorem taken_val (a : IVec S16384 32) (T : FVec Ideal S1000000x32 .f32) (r : Fin 16384) (k : Fin 32) (v : Fin 1000000)
    (hv : a (ix1 r) = BitVec.ofNat 32 v.val) : taken a T (ix2 r k) = T (ix2 v k) := by
  pointwise [taken]
  rw [inside_val a r v hv]
  exact Routing.gather_row gather_S1000000x32_S16384x1_S16384x32_1_0_n_n_0_1_132 rfl rfl rfl rfl rfl T (starts a) r k v (starts_val a r v hv) (by norm_num)

/-- The reference's result at an entry, of the rows that the two lists name there. -/
theorem outOf_val (a b : IVec S16384 32) (S T : FVec Ideal S1000000x32 .f32) (Wu : FVec Ideal S32x32 .f32) (bu : FVec Ideal S32 .f32)
    (Wi : FVec Ideal S32x32 .f32) (bi : FVec Ideal S32 .f32) (r : Fin 16384) (u v : Fin 1000000)
    (hu : a (ix1 r) = BitVec.ofNat 32 u.val) (hv : b (ix1 r) = BitVec.ofNat 32 v.val) :
    outOf a b S T Wu bu Wi bi (ix1 r) = Cert.Proof.Run.pairing (fun k => S (ix2 u k)) (fun k => T (ix2 v k))
      (fun k j => Wu (ix2 j k)) (fun j => bu (ix1 j)) (fun k j => Wi (ix2 j k)) (fun j => bi (ix1 j)) := by
  pointwise [outOf]
  unfold Cert.Proof.Run.pairing Cert.Proof.Run.tower
  simp only [fun k => taken_val a S r k u hu, fun k => taken_val b T r k v hv]

end Cert.Proof.Ref

end
-- ==== Proof.Algebraic.lean ====
/-
  The kernel's result is the reference's.
-/
module

public import proofs.«01_k».proof.Proof.Result
public import proofs.«01_k».proof.Proof.RefValue

@[expose] public section

noncomputable section

namespace Cert.Proof.Run

open Cert.KernelIdeal Cert.KernelIdeal.Gen
open Idealize.ShloMosaic Idealize.SL.Sem
open Idealize.ShloMosaic.StableHlo
open Cert.Proof.Host

variable (m : (ℓ : Loc nD τ sig) → Buf (Elt Ideal) ℓ)

/-- The result buffer at the end is the reference's result of the arguments. -/
theorem reach_eq (hm : Rows m) {d : Dev nD} {W : Valuation τ sig (Elt Ideal)} (h : Reach m d W) :
    (W (dr main_v27) : S16384.Idx → Elt Ideal .f32)
      = Cert.Proof.Ref.outOf (V0 m d (dr main_arg0)) (V0 m d (dr main_arg1)) (V0 m d (dr main_arg2)) (V0 m d (dr main_arg3))
          (V0 m d (dr main_arg4)) (V0 m d (dr main_arg5)) (V0 m d (dr main_arg6)) (V0 m d (dr main_arg7)) := by
  have word {x : IVec S16384 32} (hx : Row x) (r : Fin 16384) : x (ix1 r) = BitVec.ofNat 32 (rowAt hx r).val :=
    BitVec.eq_of_toNat_eq (by
      rw [BitVec.toNat_ofNat]
      exact (Nat.mod_eq_of_lt (x (ix1 r)).isLt).symm)
  funext i
  obtain ⟨r, rfl⟩ : ∃ r : Fin 16384, i = ix1 r := ⟨i 0, funext fun a => match a with | 0 => rfl⟩
  rw [reach_val m hm h r]
  exact (Cert.Proof.Ref.outOf_val _ _ _ _ _ _ _ _ r _ _ (word (hm.users d) r) (word (hm.items d) r)).symm

theorem algebraic : Cert.algebraic_KernelIdeal_ReferenceIdeal := fun m g m' g' hp hargs =>
  ⟨fun c => Cert.ReferenceIdeal.Value.res_main_v15 m' c,
   (θ_run (Cert.KernelIdeal.defs (F := Ideal)) _ _).mono (fun r h c => ⟨by
      obtain ⟨W, hW, hmem⟩ := h.1 c
      refine (hmem main_v27 (mem_S2 _ (by decide) (by decide) (by decide) (by decide) (by decide))).trans ?_
      refine (reach_eq m (rows_ideal hp) hW).trans ?_
      obtain ⟨e0, e1, e2, e3, e4, e5, e6, e7⟩ := hargs c
      refine Eq.trans ?_ (Cert.Proof.Ref.res_eq m' c).symm
      rw [e0, e1, e2, e3, e4, e5, e6, e7]
      rfl, same8 m h c⟩)
    (run_main m g (inTable m (rows_ideal hp))),
   Cert.ReferenceIdeal.Value.run m' g'⟩

theorem frame_reference_pre : Cert.quiescent_ReferenceIdeal_pre_ids_in_tables := fun m g _ =>
  (θ_run (Cert.ReferenceIdeal.defs (F := Ideal)) _ _).mono (fun r h => ⟨fun d => (h d).2, sem_eq_zero_of_no_sems (by decide) r.2⟩)
    (Cert.ReferenceIdeal.Value.run m g)

end Cert.Proof.Run

end
-- ==== Proof.lean ====
/-
  The claims, assembled: the frames, the idealization's side conditions and the equation with the reference.
-/
module

public import proofs.«01_k».proof.Defs
public import proofs.«01_k».proof.Proof.FrameKernel
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Run.preFacts,
  Run.frame_kernel, Run.frame_ideal, Run.frame_reference, Run.frame_reference_pre, trivial, Run.algebraic⟩

end Cert.Proof

end
